-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x7168 : Shape := ⟨3, ![2, 4096, 7168]⟩
abbrev S2x4096x112 : Shape := ⟨3, ![2, 4096, 112]⟩
abbrev S2x128x14336 : Shape := ⟨3, ![2, 128, 14336]⟩
abbrev S2x4096x128 : Shape := ⟨3, ![2, 4096, 128]⟩
abbrev S1x512x7168 : Shape := ⟨3, ![1, 512, 7168]⟩
abbrev S1x512x112 : Shape := ⟨3, ![1, 512, 112]⟩
abbrev S1x128x14336 : Shape := ⟨3, ![1, 128, 14336]⟩
abbrev S1x512x128 : Shape := ⟨3, ![1, 512, 128]⟩
abbrev S14336x128 : Shape := ⟨2, ![14336, 128]⟩
abbrev S128x512 : Shape := ⟨2, ![128, 512]⟩
abbrev S112x512 : Shape := ⟨2, ![112, 512]⟩
abbrev S1024x512 : Shape := ⟨2, ![1024, 512]⟩
abbrev S4x64x128 : Shape := ⟨3, ![4, 64, 128]⟩
abbrev S8x512 : Shape := ⟨2, ![8, 512]⟩
abbrev S1x128x1024 : Shape := ⟨3, ![1, 128, 1024]⟩
abbrev S128x1024 : Shape := ⟨2, ![128, 1024]⟩
abbrev S1024x128 : Shape := ⟨2, ![1024, 128]⟩
abbrev S512x128 : Shape := ⟨2, ![512, 128]⟩
abbrev S512x112 : Shape := ⟨2, ![512, 112]⟩
abbrev S128x128 : Shape := ⟨2, ![128, 128]⟩
abbrev S128x1x512 : Shape := ⟨3, ![128, 1, 512]⟩
abbrev S128x2x512 : Shape := ⟨3, ![128, 2, 512]⟩
abbrev S256x512 : Shape := ⟨2, ![256, 512]⟩
abbrev S1x512 : Shape := ⟨2, ![1, 512]⟩
abbrev S128x256 : Shape := ⟨2, ![128, 256]⟩
abbrev S8x128 : Shape := ⟨2, ![8, 128]⟩
abbrev S1x8x128 : Shape := ⟨3, ![1, 8, 128]⟩
abbrev S64x2x512 : Shape := ⟨3, ![64, 2, 512]⟩
abbrev S64x1x512 : Shape := ⟨3, ![64, 1, 512]⟩
abbrev S64x512 : Shape := ⟨2, ![64, 512]⟩

abbrev nBuf : Space → Nat
  | .hbm => 6
  | .vmem => 22
  | .smem => 0
  | _ => 0

abbrev bufTy : (tb : Table) → Fin (tcTables nBuf tb) → BufTy
  | .hbm, ⟨0, _⟩ => ⟨S2x4096x7168, .i8⟩
  | .hbm, ⟨1, _⟩ => ⟨S2x4096x112, .bf16⟩
  | .hbm, ⟨2, _⟩ => ⟨S2x128x14336, .bf16⟩
  | .hbm, ⟨3, _⟩ => ⟨S2x4096x128, .bf16⟩
  | .hbm, ⟨4, _⟩ => ⟨S2x4096x7168, .i8⟩
  | .hbm, ⟨5, _⟩ => ⟨S2x4096x112, .bf16⟩
  | .local _ .vmem, ⟨0, _⟩ => ⟨S1x512x7168, .i8⟩
  | .local _ .vmem, ⟨1, _⟩ => ⟨S1x512x7168, .i8⟩
  | .local _ .vmem, ⟨2, _⟩ => ⟨S1x512x112, .bf16⟩
  | .local _ .vmem, ⟨3, _⟩ => ⟨S1x512x112, .bf16⟩
  | .local _ .vmem, ⟨4, _⟩ => ⟨S1x128x14336, .bf16⟩
  | .local _ .vmem, ⟨5, _⟩ => ⟨S1x128x14336, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x7168, .i8⟩
  | .local _ .vmem, ⟨9, _⟩ => ⟨S1x512x7168, .i8⟩
  | .local _ .vmem, ⟨10, _⟩ => ⟨S1x512x112, .bf16⟩
  | .local _ .vmem, ⟨11, _⟩ => ⟨S1x512x112, .bf16⟩
  | .local _ .vmem, ⟨12, _⟩ => ⟨S14336x128, .bf16⟩
  | .local _ .vmem, ⟨13, _⟩ => ⟨S128x512, .bf16⟩
  | .local _ .vmem, ⟨14, _⟩ => ⟨S112x512, .f32⟩
  | .local _ .vmem, ⟨15, _⟩ => ⟨S112x512, .f32⟩
  | .local _ .vmem, ⟨16, _⟩ => ⟨S1024x512, .f32⟩
  | .local _ .vmem, ⟨17, _⟩ => ⟨S1024x512, .f32⟩
  | .local _ .vmem, ⟨18, _⟩ => ⟨S4x64x128, .f32⟩
  | .local _ .vmem, ⟨19, _⟩ => ⟨S4x64x128, .f32⟩
  | .local _ .vmem, ⟨20, _⟩ => ⟨S8x512, .f32⟩
  | .local _ .vmem, ⟨21, _⟩ => ⟨S8x512, .f32⟩
  | _, _ => ⟨S2x4096x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_scratch9 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x7168 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x112 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x14336 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x7168 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x112 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2x4096x7168 : Shape := ⟨3, ![2, 4096, 7168]⟩
abbrev S2x4096x112 : Shape := ⟨3, ![2, 4096, 112]⟩
abbrev S2x128x14336 : Shape := ⟨3, ![2, 128, 14336]⟩
abbrev S2x4096x128 : Shape := ⟨3, ![2, 4096, 128]⟩
abbrev S2x4096x112x64 : Shape := ⟨4, ![2, 4096, 112, 64]⟩
abbrev S_ : Shape := ⟨0, ![]⟩
abbrev S2x4096x112x1 : Shape := ⟨4, ![2, 4096, 112, 1]⟩
abbrev S2x128x112x64x2 : Shape := ⟨5, ![2, 128, 112, 64, 2]⟩
abbrev S2x128x112x64x1 : Shape := ⟨5, ![2, 128, 112, 64, 1]⟩
abbrev S2x128x112x64 : Shape := ⟨4, ![2, 128, 112, 64]⟩

abbrev nBuf : Space → Nat
  | .hbm => 106
  | .vmem => 0
  | .smem => 0
  | _ => 0

abbrev bufTy : (tb : Table) → Fin (tcTables nBuf tb) → BufTy
  | .hbm, ⟨0, _⟩ => ⟨S2x4096x7168, .i8⟩
  | .hbm, ⟨1, _⟩ => ⟨S2x4096x112, .bf16⟩
  | .hbm, ⟨2, _⟩ => ⟨S2x128x14336, .bf16⟩
  | .hbm, ⟨3, _⟩ => ⟨S2x4096x128, .bf16⟩
  | .hbm, ⟨4, _⟩ => ⟨S2x4096x112x64, .i8⟩
  | .hbm, ⟨5, _⟩ => ⟨S2x4096x112x64, .i32⟩
  | .hbm, ⟨6, _⟩ => ⟨S_, .i32⟩
  | .hbm, ⟨7, _⟩ => ⟨S2x4096x112x64, .i32⟩
  | .hbm, ⟨8, _⟩ => ⟨S2x4096x112x64, .i32⟩
  | .hbm, ⟨9, _⟩ => ⟨S_, .i32⟩
  | .hbm, ⟨10, _⟩ => ⟨S2x4096x112x64, .i32⟩
  | .hbm, ⟨11, _⟩ => ⟨S2x4096x112x64, .i1⟩
  | .hbm, ⟨12, _⟩ => ⟨S_, .i32⟩
  | .hbm, ⟨13, _⟩ => ⟨S2x4096x112x64, .i32⟩
  | .hbm, ⟨14, _⟩ => ⟨S2x4096x112x64, .i32⟩
  | .hbm, ⟨15, _⟩ => ⟨S2x4096x112x64, .i32⟩
  | .hbm, ⟨16, _⟩ => ⟨S_, .i32⟩
  | .hbm, ⟨17, _⟩ => ⟨S2x4096x112x64, .i32⟩
  | .hbm, ⟨18, _⟩ => ⟨S2x4096x112x64, .i32⟩
  | .hbm, ⟨19, _⟩ => ⟨S_, .i32⟩
  | .hbm, ⟨20, _⟩ => ⟨S2x4096x112x64, .i32⟩
  | .hbm, ⟨21, _⟩ => ⟨S2x4096x112x64, .i1⟩
  | .hbm, ⟨22, _⟩ => ⟨S_, .i32⟩
  | .hbm, ⟨23, _⟩ => ⟨S2x4096x112x64, .i32⟩
  | .hbm, ⟨24, _⟩ => ⟨S2x4096x112x64, .i32⟩
  | .hbm, ⟨25, _⟩ => ⟨S2x4096x112x64, .i32⟩
  | .hbm, ⟨26, _⟩ => ⟨S2x4096x112x1, .bf16⟩
  | .hbm, ⟨27, _⟩ => ⟨S2x4096x112x64, .bf16⟩
  | .hbm, ⟨28, _⟩ => ⟨S2x4096x112x64, .bf16⟩
  | .hbm, ⟨29, _⟩ => ⟨S2x4096x112x64, .bf16⟩
  | .hbm, ⟨30, _⟩ => ⟨S2x4096x112x64, .bf16⟩
  | .hbm, ⟨31, _⟩ => ⟨S2x4096x112x64, .bf16⟩
  | .hbm, ⟨32, _⟩ => ⟨S2x4096x112x64, .bf16⟩
  | .hbm, ⟨33, _⟩ => ⟨S2x128x112x64x2, .bf16⟩
  | .hbm, ⟨34, _⟩ => ⟨S2x128x112x64x1, .bf16⟩
  | .hbm, ⟨35, _⟩ => ⟨S2x128x112x64, .bf16⟩
  | .hbm, ⟨36, _⟩ => ⟨S2x4096x112x64, .f32⟩
  | .hbm, ⟨37, _⟩ => ⟨S2x128x112x64x1, .bf16⟩
  | .hbm, ⟨38, _⟩ => ⟨S2x128x112x64, .bf16⟩
  | .hbm, ⟨39, _⟩ => ⟨S2x4096x112x64, .f32⟩
  | .hbm, ⟨40, _⟩ => ⟨S2x4096x112x64, .f32⟩
  | .hbm, ⟨41, _⟩ => ⟨S_, .f32⟩
  | .hbm, ⟨42, _⟩ => ⟨S2x4096x112x64, .f32⟩
  | .hbm, ⟨43, _⟩ => ⟨S2x4096x112x64, .f32⟩
  | .hbm, ⟨44, _⟩ => ⟨S2x4096x112x64, .f32⟩
  | .hbm, ⟨45, _⟩ => ⟨S2x4096x112x64, .f32⟩
  | .hbm, ⟨46, _⟩ => ⟨S_, .f32⟩
  | .hbm, ⟨47, _⟩ => ⟨S2x4096x112x64, .f32⟩
  | .hbm, ⟨48, _⟩ => ⟨S2x4096x112x64, .f32⟩
  | .hbm, ⟨49, _⟩ => ⟨S2x4096x112x64, .f32⟩
  | .hbm, ⟨50, _⟩ => ⟨S2x4096x112x64, .f32⟩
  | .hbm, ⟨51, _⟩ => ⟨S_, .f32⟩
  | .hbm, ⟨52, _⟩ => ⟨S2x4096x112, .f32⟩
  | .hbm, ⟨53, _⟩ => ⟨S2x4096x112x64, .f32⟩
  | .hbm, ⟨54, _⟩ => ⟨S_, .f32⟩
  | .hbm, ⟨55, _⟩ => ⟨S2x4096x112, .f32⟩
  | .hbm, ⟨56, _⟩ => ⟨S2x4096x112, .f32⟩
  | .hbm, ⟨57, _⟩ => ⟨S_, .f32⟩
  | .hbm, ⟨58, _⟩ => ⟨S2x4096x112, .f32⟩
  | .hbm, ⟨59, _⟩ => ⟨S2x4096x112, .i1⟩
  | .hbm, ⟨60, _⟩ => ⟨S_, .f32⟩
  | .hbm, ⟨61, _⟩ => ⟨S2x4096x112, .f32⟩
  | .hbm, ⟨62, _⟩ => ⟨S2x4096x112, .f32⟩
  | .hbm, ⟨63, _⟩ => ⟨S_, .f32⟩
  | .hbm, ⟨64, _⟩ => ⟨S_, .f32⟩
  | .hbm, ⟨65, _⟩ => ⟨S2x4096x112, .f32⟩
  | .hbm, ⟨66, _⟩ => ⟨S2x4096x112, .f32⟩
  | .hbm, ⟨67, _⟩ => ⟨S2x4096x112, .bf16⟩
  | .hbm, ⟨68, _⟩ => ⟨S2x4096x112, .f32⟩
  | .hbm, ⟨69, _⟩ => ⟨S2x4096x112x1, .f32⟩
  | .hbm, ⟨70, _⟩ => ⟨S2x4096x112x64, .f32⟩
  | .hbm, ⟨71, _⟩ => ⟨S2x4096x112x64, .f32⟩
  | .hbm, ⟨72, _⟩ => ⟨S2x4096x112x64, .f32⟩
  | .hbm, ⟨73, _⟩ => ⟨S_, .i32⟩
  | .hbm, ⟨74, _⟩ => ⟨S_, .i32⟩
  | .hbm, ⟨75, _⟩ => ⟨S_, .f32⟩
  | .hbm, ⟨76, _⟩ => ⟨S2x4096x112x64, .f32⟩
  | .hbm, ⟨77, _⟩ => ⟨S2x4096x112x64, .f32⟩
  | .hbm, ⟨78, _⟩ => ⟨S_, .f32⟩
  | .hbm, ⟨79, _⟩ => ⟨S2x4096x112x64, .f32⟩
  | .hbm, ⟨80, _⟩ => ⟨S2x4096x112x64, .f32⟩
  | .hbm, ⟨81, _⟩ => ⟨S2x4096x112x64, .i32⟩
  | .hbm, ⟨82, _⟩ => ⟨S2x4096x112x64, .f32⟩
  | .hbm, ⟨83, _⟩ => ⟨S2x4096x112x64, .f32⟩
  | .hbm, ⟨84, _⟩ => ⟨S2x4096x112x64, .f32⟩
  | .hbm, ⟨85, _⟩ => ⟨S_, .i32⟩
  | .hbm, ⟨86, _⟩ => ⟨S_, .i32⟩
  | .hbm, ⟨87, _⟩ => ⟨S_, .f32⟩
  | .hbm, ⟨88, _⟩ => ⟨S2x4096x112x64, .f32⟩
  | .hbm, ⟨89, _⟩ => ⟨S2x4096x112x64, .f32⟩
  | .hbm, ⟨90, _⟩ => ⟨S_, .f32⟩
  | .hbm, ⟨91, _⟩ => ⟨S2x4096x112x64, .f32⟩
  | .hbm, ⟨92, _⟩ => ⟨S2x4096x112x64, .f32⟩
  | .hbm, ⟨93, _⟩ => ⟨S2x4096x112x64, .i32⟩
  | .hbm, ⟨94, _⟩ => ⟨S_, .i32⟩
  | .hbm, ⟨95, _⟩ => ⟨S2x4096x112x64, .i32⟩
  | .hbm, ⟨96, _⟩ => ⟨S2x4096x112x64, .i32⟩
  | .hbm, ⟨97, _⟩ => ⟨S_, .i32⟩
  | .hbm, ⟨98, _⟩ => ⟨S2x4096x112x64, .i32⟩
  | .hbm, ⟨99, _⟩ => ⟨S2x4096x112x64, .i32⟩
  | .hbm, ⟨100, _⟩ => ⟨S_, .i32⟩
  | .hbm, ⟨101, _⟩ => ⟨S2x4096x112x64, .i32⟩
  | .hbm, ⟨102, _⟩ => ⟨S2x4096x112x64, .i32⟩
  | .hbm, ⟨103, _⟩ => ⟨S2x4096x112x64, .i32⟩
  | .hbm, ⟨104, _⟩ => ⟨S2x4096x112x64, .i8⟩
  | .hbm, ⟨105, _⟩ => ⟨S2x4096x7168, .i8⟩
  | _, _ => ⟨S2x4096x7168, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_c_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_cst_10 : Ref sig .tc := ⟨.hbm, 63, rfl⟩
abbrev main_call2_v0 : Ref sig .tc := ⟨.hbm, 64, rfl⟩
abbrev main_call2_v1 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_11 : Ref sig .tc := ⟨.hbm, 73, rfl⟩
abbrev main_c_12 : Ref sig .tc := ⟨.hbm, 74, rfl⟩
abbrev main_call4_v0 : Ref sig .tc := ⟨.hbm, 75, rfl⟩
abbrev main_call4_v1 : Ref sig .tc := ⟨.hbm, 76, rfl⟩
abbrev main_call4_v2 : Ref sig .tc := ⟨.hbm, 77, rfl⟩
abbrev main_call4_v3 : Ref sig .tc := ⟨.hbm, 78, rfl⟩
abbrev main_call4_v4 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c_13 : Ref sig .tc := ⟨.hbm, 85, rfl⟩
abbrev main_c_14 : Ref sig .tc := ⟨.hbm, 86, rfl⟩
abbrev main_call6_v0 : Ref sig .tc := ⟨.hbm, 87, rfl⟩
abbrev main_call6_v1 : Ref sig .tc := ⟨.hbm, 88, rfl⟩
abbrev main_call6_v2 : Ref sig .tc := ⟨.hbm, 89, rfl⟩
abbrev main_call6_v3 : Ref sig .tc := ⟨.hbm, 90, rfl⟩
abbrev main_call6_v4 : Ref sig .tc := ⟨.hbm, 91, rfl⟩
abbrev main_v59 : Ref sig .tc := ⟨.hbm, 92, rfl⟩
abbrev main_v60 : Ref sig .tc := ⟨.hbm, 93, rfl⟩
abbrev main_c_15 : Ref sig .tc := ⟨.hbm, 94, rfl⟩
abbrev main_v61 : Ref sig .tc := ⟨.hbm, 95, rfl⟩
abbrev main_v62 : Ref sig .tc := ⟨.hbm, 96, rfl⟩
abbrev main_c_16 : Ref sig .tc := ⟨.hbm, 97, rfl⟩
abbrev main_v63 : Ref sig .tc := ⟨.hbm, 98, rfl⟩
abbrev main_v64 : Ref sig .tc := ⟨.hbm, 99, rfl⟩
abbrev main_c_17 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩

abbrev nD : Nat := 1
abbrev τ : Topo := Topo.v7x

variable {F : FTy → Type} [FloatOps F]
-- ==== Proof.Block.lean ====
module

public import proofs.«01_k».proof.Proof.Gen.KernelIdeal.Frame

@[expose] public section

set_option maxRecDepth 16384

noncomputable section

/-! One grid point's work as formulas indexed by the chunk and the group: the blocks the body stores into each buffer, newest first, with every load it makes of them. -/

namespace Cert.Block

open Cert.KernelIdeal Cert.KernelIdeal.Gen Idealize.ShloMosaic Idealize.ShloMosaic.TcCoe Idealize.SL.Sem

variable {F : FTy → Type} [FloatOps F]

/-- What the merging of a group reads: a group's rows of the transposed first factor, the transposed second factor, a group's row of scales and the packed codes of a pair of groups. -/
structure Env (F : FTy → Type) [FloatOps F] where
  at' : Fin 112 → FVec F S128x128 .bf16
  bt : FVec F S128x512 .bf16
  s2 : Fin 112 → FVec F S1x512 .f32
  cd : Fin 56 → IVec S1x512x128 8

/-- The identity matrix, as the body makes it. -/
def eye : FVec F S128x128 .bf16 :=
  truncf .bf16 (sitofp .f32 (extui 32 (cmpi .eq (iota .tc S128x128 32 [0] iota_S128x128_d0_w32) (iota .tc S128x128 32 [1] iota_S128x128_d1_w32)) natLt_1_32)) bitsLt_bf16_f32

/-- The bytes of a pair of groups, transposed. -/
def bytesT (p : IVec S1x512x128 8) : IVec S128x512 32 :=
  extui 32 (transpose S128x512 [1, 0] (shapeCast S512x128 p shapeCasts_S1x512x128_S512x128) transposes_S512x128_p1_0_S128x512) natLt_8_32

/-- The nibbles of a pair of groups, low and high by turns. -/
def nibs (p : IVec S1x512x128 8) : IVec S256x512 32 :=
  shapeCast S256x512 (concatenate S128x2x512 1
    [⟨S128x1x512, shapeCast S128x1x512 (andi (bytesT p) (broadcast S128x512 15#32)) shapeCasts_S128x512_S128x1x512⟩,
     ⟨S128x1x512, shapeCast S128x1x512 (shrsi (bytesT p) (broadcast S128x512 4#32)) shapeCasts_S128x512_S128x1x512⟩] concatenates_S128x1x512_S128x1x512_S128x2x512_d1) shapeCasts_S128x2x512_S256x512

/-- The nibbles read as signed numbers. -/
def vals (p : IVec S1x512x128 8) : FVec F S256x512 .bf16 :=
  sitofp .bf16 (select (cmpi .sge (nibs p) (broadcast S256x512 8#32)) (subi (nibs p) (broadcast S256x512 16#32)) (nibs p))

/-- The one or the other group of a pair. -/
def half (q : Fin 2) (v : FVec F S256x512 .bf16) : FVec F S128x512 .bf16 :=
  if q.val = 0 then extractStridedSlice S128x512 ![0, 0] v slices_S256x512_o0_0_S128x512
  else extractStridedSlice S128x512 ![128, 0] v slices_S256x512_o128_0_S128x512

/-- Group `i` of chunk `j` among all groups. -/
def gi (j : Fin 14) (i : Fin 8) : Fin 112 := ⟨8 * j.val + i.val, by omega⟩
/-- The pair a group is in. -/
def pr (j : Fin 14) (p : Fin 4) : Fin 56 := ⟨4 * j.val + p.val, by omega⟩

/-- Group `i` of chunk `j` merged. -/
def mB (e : Env F) (j : Fin 14) (i : Fin 8) : FVec F S128x512 .f32 :=
  matmul dot_S128x256_S256x512_S128x512_1_0_0_1_n_n none
    (concatenate S128x256 1 [⟨S128x128, e.at' (gi j i)⟩, ⟨S128x128, eye⟩] concatenates_S128x128_S128x128_S128x256_d1)
    (concatenate S256x512 0 [⟨S128x512, e.bt⟩, ⟨S128x512, mulf (half ⟨i.val % 2, by omega⟩ (vals (e.cd (pr j ⟨i.val / 2, by omega⟩))))
        (truncf .bf16 (broadcastTo S128x512 (shapeCast S1x512 (e.s2 (gi j i)) shapeCasts_S1x512_S1x512) broadcasts_S1x512_S128x512) bitsLt_bf16_f32)⟩]
      concatenates_S128x512_S128x512_S256x512_d0)
    (constant S128x512 .f32 0x00000000#32)

/-- Eight rows of a merged group, their magnitudes. -/
def abs8 (m : FVec F S128x512 .f32) (k : Fin 16) : FVec F S8x512 .f32 :=
  absf (extractStridedSlice S8x512 ![8 * k.val, 0] m ⟨rfl, fun a => by
    have := k.isLt; match a with | 0 => show 8 * k.val + 8 ≤ 128; omega | 1 => show 0 + 512 ≤ 512; omega⟩)

/-- The largest of the first `n + 1` of sixteen eights of rows. -/
def acc (m : FVec F S128x512 .f32) : (n : ℕ) → n < 16 → FVec F S8x512 .f32
  | 0, h => abs8 m ⟨0, h⟩
  | n + 1, h => maximumf (acc m n (by omega)) (abs8 m ⟨n + 1, h⟩)

/-- A tile of 128 columns of the partial maxima. -/
def lane (v : FVec F S8x512 .f32) (t : Fin 4) : FVec F S1x8x128 .f32 :=
  shapeCast S1x8x128 (extractStridedSlice S8x128 ![0, 128 * t.val] v ⟨rfl, fun a => by
    have := t.isLt; match a with | 0 => show 0 + 8 ≤ 8; omega | 1 => show 128 * t.val + 128 ≤ 512; omega⟩) shapeCasts_S8x128_S1x8x128

/-- The block group `i` of chunk `j` stores. -/
def mPiece (e : Env F) (j : Fin 14) (i : Fin 8) : View.Piece (Elt F) S1024x512 .f32 :=
  ⟨Rect.unit (s := S1024x512) ![128 * i.val, 0] S128x512.size (fun a => by
    have := i.isLt; match a with | 0 => show 128 * i.val + 128 ≤ 1024; omega | 1 => show 0 + 512 ≤ 512; omega),
   shapeCast S128x512 (mB e j i) shapeCasts_S128x512_S128x512⟩

/-- The partial maxima group `i` of chunk `j` stores in tile `t`. -/
def pPiece (e : Env F) (j : Fin 14) (i : Fin 8) (t : Fin 4) : View.Piece (Elt F) S4x64x128 .f32 :=
  ⟨Rect.unit (s := S4x64x128) ![t.val, 8 * i.val, 0] S1x8x128.size (fun a => by
    have := i.isLt; have := t.isLt
    match a with | 0 => show t.val + 1 ≤ 4; omega | 1 => show 8 * i.val + 8 ≤ 64; omega | 2 => show 0 + 128 ≤ 128; omega),
   lane (acc (mB e j i) 15 (by omega)) t⟩

/-- The eight groups, last first. -/
def down8 : List (Fin 8) := [7, 6, 5, 4, 3, 2, 1, 0]
/-- The four tiles, last first. -/
def down4 : List (Fin 4) := [3, 2, 1, 0]
/-- The chunks, last first. -/
def downN : List (Fin 14) := [13, 12, 11, 10, 9, 8, 7, 6, 5, 4, 3, 2, 1, 0]

def mNew (e : Env F) (j : Fin 14) : List (View.Piece (Elt F) S1024x512 .f32) := down8.map (mPiece e j)
def pNew (e : Env F) (j : Fin 14) : List (View.Piece (Elt F) S4x64x128 .f32) := down8.flatMap fun i => down4.map (pPiece e j i)

/-- What a merged chunk's buffer holds: its own blocks over those of the chunk before the last. -/
def mList (e : Env F) : (j : ℕ) → j < 14 → List (View.Piece (Elt F) S1024x512 .f32)
  | 0, h => mNew e ⟨0, h⟩
  | 1, h => mNew e ⟨1, h⟩
  | j + 2, h => mNew e ⟨j + 2, h⟩ ++ mList e j (by omega)
def pList (e : Env F) : (j : ℕ) → j < 14 → List (View.Piece (Elt F) S4x64x128 .f32)
  | 0, h => pNew e ⟨0, h⟩
  | 1, h => pNew e ⟨1, h⟩
  | j + 2, h => pNew e ⟨j + 2, h⟩ ++ pList e j (by omega)

/-- Views of the two buffers of each kind, and of the buffer of scales. -/
structure Bufs where
  m0 : View sig .tc .vmem S1024x512 .f32
  m1 : View sig .tc .vmem S1024x512 .f32
  p0 : View sig .tc .vmem S4x64x128 .f32
  p1 : View sig .tc .vmem S4x64x128 .f32
  r0 : View sig .tc .vmem S8x512 .f32
  r1 : View sig .tc .vmem S8x512 .f32
  os : View sig .tc .vmem S112x512 .f32

/-- The one or the other by the parity of the chunk. -/
def alt {α : Sort*} (j : ℕ) (x y : α) : α := if j % 2 = 0 then x else y

variable (b : Bufs)

/-- Partial maxima `k` of the eight groups in tile `t`. -/
def pRead (e : Env F) (j : Fin 14) (t : Fin 4) (k : Fin 8) : FVec F S1x8x128 .f32 :=
  (alt j.val b.p0 b.p1).readCov (pList e j.val j.isLt) ⟨![t.val, k.val, 0], S1x8x128.size, ![1, 8, 1], fun a => by
    have := k.isLt; have := t.isLt
    match a with
    | 0 => exact Or.inr (show t.val + 1 * (1 - 1) < 4 by omega)
    | 1 => exact Or.inr (show k.val + 8 * (8 - 1) < 64 by omega)
    | 2 => exact Or.inr (show 0 + 1 * (128 - 1) < 128 by omega)⟩

/-- The largest of the first `n + 1`. -/
def tmax (e : Env F) (j : Fin 14) (t : Fin 4) : (n : ℕ) → n < 8 → FVec F S8x128 .f32
  | 0, h => shapeCast S8x128 (pRead b e j t ⟨0, h⟩) shapeCasts_S1x8x128_S8x128
  | n + 1, h => maximumf (tmax e j t n (by omega)) (shapeCast S8x128 (pRead b e j t ⟨n + 1, h⟩) shapeCasts_S1x8x128_S8x128)

/-- The largest magnitude of each group and column of chunk `j`. -/
def amax (e : Env F) (j : Fin 14) : FVec F S8x512 .f32 :=
  concatenate S8x512 1 [⟨S8x128, tmax b e j 0 7 (by omega)⟩, ⟨S8x128, tmax b e j 1 7 (by omega)⟩, ⟨S8x128, tmax b e j 2 7 (by omega)⟩, ⟨S8x128, tmax b e j 3 7 (by omega)⟩]
    concatenates_S8x128_S8x128_S8x128_S8x128_S8x512_d1

/-- The scales of chunk `j`. -/
def sc (e : Env F) (j : Fin 14) : FVec F S8x512 .f32 :=
  extf .f32 (truncf .bf16 (select (cmpf .oeq (amax b e j) (broadcast S8x512 (Scalar.ofBits .f32 0x00000000#32))) (broadcast S8x512 (Scalar.ofBits .f32 0x3F800000#32))
    (divf (amax b e j) (broadcast S8x512 (Scalar.ofBits .f32 0x40E00000#32)))) bitsLt_bf16_f32) bitsLt_bf16_f32

/-- The scales' block of chunk `j`. -/
def sPiece (e : Env F) (j : Fin 14) : View.Piece (Elt F) S112x512 .f32 :=
  ⟨Rect.unit (s := S112x512) ![8 * j.val, 0] S8x512.size (fun a => by
    have := j.isLt; match a with | 0 => show 8 * j.val + 8 ≤ 112; omega | 1 => show 0 + 512 ≤ 512; omega),
   shapeCast S8x512 (sc b e j) shapeCasts_S8x512_S8x512⟩

/-- The reciprocals' block of chunk `j`. -/
def rPiece (e : Env F) (j : Fin 14) : View.Piece (Elt F) S8x512 .f32 :=
  ⟨Rect.unit (s := S8x512) ![0, 0] S8x512.size (fun a => by match a with | 0 => show 0 + 8 ≤ 8; omega | 1 => show 0 + 512 ≤ 512; omega),
   shapeCast S8x512 (divf (broadcast S8x512 (Scalar.ofBits .f32 0x3F800000#32)) (sc b e j)) shapeCasts_S8x512_S8x512⟩

def rList (e : Env F) : (j : ℕ) → j < 14 → List (View.Piece (Elt F) S8x512 .f32)
  | 0, h => [rPiece b e ⟨0, h⟩]
  | 1, h => [rPiece b e ⟨1, h⟩]
  | j + 2, h => rPiece b e ⟨j + 2, h⟩ :: rList e j (by omega)

/-- Group `i` of chunk `j`, loaded again. -/
def mRead (e : Env F) (j : Fin 14) (i : Fin 8) : FVec F S128x512 .f32 :=
  (alt j.val b.m0 b.m1).readCov (mList e j.val j.isLt) (Rect.unit (s := S1024x512) ![128 * i.val, 0] S128x512.size (fun a => by
    have := i.isLt; match a with | 0 => show 128 * i.val + 128 ≤ 1024; omega | 1 => show 0 + 512 ≤ 512; omega)).toLoadRect

/-- Row `i` of the reciprocals of chunk `j`. -/
def rRead (e : Env F) (j : Fin 14) (i : Fin 8) : FVec F S1x512 .f32 :=
  (alt j.val b.r0 b.r1).readCov (rList b e j.val j.isLt) (Rect.unit (s := S8x512) ![i.val, 0] S1x512.size (fun a => by
    have := i.isLt; match a with | 0 => show i.val + 1 ≤ 8; omega | 1 => show 0 + 512 ≤ 512; omega)).toLoadRect

/-- A merged group divided by its scales, rounded and clipped, as four-bit numbers widened. -/
def qz (m : FVec F S128x512 .f32) (r : FVec F S1x512 .f32) : IVec S128x512 32 :=
  extsi 32 (fptosi 4 (roundeven (minimumf (broadcast S128x512 (Scalar.truncf (F := F) .bf16 bitsLt_bf16_f32 (Scalar.ofBits .f32 0x40E00000#32)))
    (maximumf (broadcast S128x512 (Scalar.truncf (F := F) .bf16 bitsLt_bf16_f32 (Scalar.ofBits .f32 0xC0E00000#32)))
      (truncf .bf16 (roundeven (mulf m (broadcastTo S128x512 r broadcasts_S1x512_S128x512))) bitsLt_bf16_f32))))) natLt_4_32

/-- Rows two by two put into bytes. -/
def pack (x : IVec S128x512 32) : IVec S64x512 8 :=
  trunci 8 (ori
    (andi (shapeCast S64x512 (extractStridedSlice S64x1x512 ![0, 0, 0] (shapeCast S64x2x512 x shapeCasts_S128x512_S64x2x512) slices_S64x2x512_o0_0_0_S64x1x512)
      shapeCasts_S64x1x512_S64x512) (broadcast S64x512 15#32))
    (shli (andi (shapeCast S64x512 (extractStridedSlice S64x1x512 ![0, 1, 0] (shapeCast S64x2x512 x shapeCasts_S128x512_S64x2x512) slices_S64x2x512_o0_1_0_S64x1x512)
      shapeCasts_S64x1x512_S64x512) (broadcast S64x512 15#32)) (broadcast S64x512 4#32))) natLt_8_32

/-- The codes' block of pair `p` of chunk `j`. -/
def oPiece (e : Env F) (j : Fin 14) (p : Fin 4) : View.Piece (Elt F) S1x512x7168 .i8 :=
  ⟨Rect.unit (s := S1x512x7168) ![0, 0, 128 * (4 * j.val + p.val)] S1x512x128.size (fun a => by
    have := j.isLt; have := p.isLt
    match a with | 0 => show 0 + 1 ≤ 1; omega | 1 => show 0 + 512 ≤ 512; omega | 2 => show 128 * (4 * j.val + p.val) + 128 ≤ 7168; omega),
   shapeCast S1x512x128 (transpose S512x128 [1, 0] (concatenate S128x512 0
      [⟨S64x512, pack (qz (mRead b e j ⟨2 * p.val, by omega⟩) (rRead b e j ⟨2 * p.val, by omega⟩))⟩,
       ⟨S64x512, pack (qz (mRead b e j ⟨2 * p.val + 1, by omega⟩) (rRead b e j ⟨2 * p.val + 1, by omega⟩))⟩]
      concatenates_S64x512_S64x512_S128x512_d0) transposes_S128x512_p1_0_S512x128) shapeCasts_S512x128_S1x512x128⟩

/-- All the blocks of codes, last first. -/
def oList (e : Env F) : List (View.Piece (Elt F) S1x512x7168 .i8) := downN.flatMap fun j => down4.map (oPiece b e j)

/-- All the scales, loaded and transposed. -/
def scT (e : Env F) : FVec F S1x512x112 .bf16 :=
  shapeCast S1x512x112 (truncf .bf16 (transpose S512x112 [1, 0]
    (b.os.readCov (downN.map (sPiece b e)) (Rect.unit (s := S112x512) ![0, 0] S112x512.size (fun a => by match a with | 0 => show 0 + 112 ≤ 112; omega | 1 => show 0 + 512 ≤ 512; omega)).toLoadRect)
    transposes_S112x512_p1_0_S512x112) bitsLt_bf16_f32) shapeCasts_S512x112_S1x512x112

/-- The one block of scales. -/
def osList (e : Env F) : List (View.Piece (Elt F) S1x512x112 .bf16) :=
  [⟨Rect.unit (s := S1x512x112) ![0, 0, 0] S1x512x112.size (fun a => by match a with | 0 => show 0 + 1 ≤ 1; omega | 1 => show 0 + 512 ≤ 512; omega | 2 => show 0 + 112 ≤ 112; omega),
   scT b e⟩]

end Cert.Block
-- ==== Proof.Scalar.lean ====
module

public import Idealize.ShloMosaic.Lib.Pointwise
public import Idealize.ShloMosaic.PureOps.Ideal

@[expose] public section

noncomputable section

/-! The formulas of one group of one row: the largest magnitude, the scale, the four-bit codes and the bytes; and that the two ways of reaching a code agree. -/

namespace Cert.Scalar

open Idealize.ShloMosaic

/-- The magnitude. -/
def ab (x : EReal) : EReal := max x (-x)

/-- The largest magnitude of a group. -/
def top (w : Fin 128 → EReal) : EReal := Finset.univ.sup fun r => ab (w r)

theorem top_le (w : Fin 128 → EReal) (c : EReal) : top w ≤ c ↔ ∀ r, ab (w r) ≤ c := by
  simp [top, Finset.sup_le_iff]

theorem eq_top_of {w : Fin 128 → EReal} {x : EReal} (h : ∀ c, x ≤ c ↔ ∀ r, ab (w r) ≤ c) : x = top w :=
  eq_of_forall_ge_iff fun c => (h c).trans (top_le w c).symm

/-- The scale: a seventh of the largest magnitude, one for a group of zeros. -/
def scale (a : EReal) : EReal := if a = 0 then 1 else Ideal.div a ((7 : ℝ) : EReal)

theorem scale_ne (a : EReal) : scale a ≠ 0 := by
  unfold scale
  split
  · exact one_ne_zero
  · rename_i h
    rw [Ideal.div_coe (by norm_num)]
    exact mul_ne_zero h (by norm_num)

theorem mul_recip (x : EReal) {t : EReal} (h : t ≠ 0) : x * Ideal.div 1 t = Ideal.div x t := by
  rw [Ideal.div, Ideal.div, if_neg h, if_neg h, one_mul]

/-- The rounded and clipped quotient. -/
def rnd (y : EReal) : EReal := min ((7 : ℝ) : EReal) (max ((-7 : ℝ) : EReal) (Ideal.liftRound Ideal.roundHalfEven y))

theorem rnd_int (y : EReal) : ∃ k : ℤ, -7 ≤ k ∧ k ≤ 7 ∧ rnd y = ((k : ℝ) : EReal) := by
  have key : ∀ n : ℤ, ∃ k : ℤ, -7 ≤ k ∧ k ≤ 7 ∧ min ((7 : ℝ) : EReal) (max ((-7 : ℝ) : EReal) ((n : ℝ) : EReal)) = ((k : ℝ) : EReal) := by
    intro n
    refine ⟨min 7 (max (-7) n), by omega, by omega, ?_⟩
    rw [← EReal.coe_strictMono.monotone.map_max, ← EReal.coe_strictMono.monotone.map_min]
    push_cast
    rfl
  unfold rnd
  induction y using EReal.rec with
  | bot => exact ⟨-7, by norm_num, by norm_num, by
      show min ((7 : ℝ) : EReal) (max ((-7 : ℝ) : EReal) ⊥) = _
      rw [max_bot_right, min_eq_right (by exact_mod_cast (by norm_num : (-7 : ℝ) ≤ 7))]; norm_num⟩
  | top => exact ⟨7, by norm_num, by norm_num, by
      show min ((7 : ℝ) : EReal) (max ((-7 : ℝ) : EReal) ⊤) = _
      rw [max_top_right, min_top_right]; norm_num⟩
  | coe r => exact key (Ideal.roundHalfEven r)

theorem roundHalfEven_int (k : ℤ) : Ideal.roundHalfEven (k : ℝ) = k := by
  simp [Ideal.roundHalfEven]

theorem toInt_int (lo hi k : ℤ) (h1 : lo ≤ k) (h2 : k ≤ hi) : Ideal.toIntClamped lo hi ((k : ℝ) : EReal) = k := by
  rw [Ideal.toIntClamped_coe]
  simp only [Int.floor_intCast, Int.ceil_intCast, ite_self]
  omega

/-- Rounding again and going through four bits gives the code in thirty-two bits. -/
theorem code4 (y : EReal) : (Ideal.fptosi 4 (Ideal.liftRound Ideal.roundHalfEven (rnd y))).signExtend 32 = Ideal.fptosi 32 (rnd y) := by
  obtain ⟨k, h1, h2, h⟩ := rnd_int y
  rw [h]
  have e : Ideal.liftRound Ideal.roundHalfEven ((k : ℝ) : EReal) = ((k : ℝ) : EReal) := by
    show ((Ideal.roundHalfEven (k : ℝ) : ℝ) : EReal) = _
    rw [roundHalfEven_int]
  rw [e, Ideal.fptosi, Ideal.fptosi, toInt_int _ _ _ (by norm_num; omega) (by norm_num; omega), toInt_int _ _ _ (by norm_num; omega) (by norm_num; omega)]
  interval_cases k <;> decide

/-- The code of one weight. -/
def code (w : Fin 128 → EReal) (r : Fin 128) : BitVec 32 := Ideal.fptosi 32 (rnd (Ideal.div (w r) (scale (top w))))

/-- The byte of two neighbouring weights. -/
def byte (w : Fin 128 → EReal) (j : Fin 64) : BitVec 8 :=
  BitVec.truncate 8 (((code w ⟨2 * j.val, by omega⟩ &&& 15#32)) ||| ((code w ⟨2 * j.val + 1, by omega⟩ &&& 15#32) <<< 4))

/-- A nibble read as a signed number. -/
def signed (v : BitVec 32) : BitVec 32 := if (8#32).sle v then v - 16#32 else v

/-- A nonnegative real factor goes into a sum. -/
theorem mul_sum {n : ℕ} (c : ℝ) (hc : 0 ≤ c) (f : Fin n → EReal) : (c : EReal) * ∑ k, f k = ∑ k, (c : EReal) * f k := by
  induction n with
  | zero => simp
  | succ n ih =>
    rw [Fin.sum_univ_succ, Fin.sum_univ_succ, EReal.left_distrib_of_nonneg_of_ne_top (by exact_mod_cast hc) (EReal.coe_ne_top c), ih]

/-- A row of the identity matrix picks one element. -/
theorem sum_pick {n : ℕ} (r : Fin n) (f : Fin n → EReal) (d : Fin n → EReal) (h1 : d r = 1) (h0 : ∀ k, k ≠ r → d k = 0) : ∑ k, d k * f k = f r := by
  rw [Finset.sum_eq_single r]
  · rw [h1, one_mul]
  · intro k _ hk; rw [h0 k hk, zero_mul]
  · intro h; exact absurd (Finset.mem_univ r) h

end Cert.Scalar
-- ==== Proof.Values.lean ====
module

public import proofs.«01_k».proof.Proof.Block
public import proofs.«01_k».proof.Proof.Scalar
public import Idealize.ShloMosaic.Lib.Pointwise
public import Idealize.ShloMosaic.Lib.Pipeline.ReadBack

@[expose] public section

set_option maxRecDepth 16384

noncomputable section

/-! The formulas of one grid point at an index, over the extended reals. -/

namespace Cert.Block

open Cert.KernelIdeal Cert.KernelIdeal.Gen Idealize.ShloMosaic Idealize.ShloMosaic.TcCoe Idealize.SL.Sem Cert.Scalar

theorem eye_apply (r k : Fin 128) : (eye (F := Ideal)) (ix2 r k) = if k = r then 1 else 0 := by
  unfold eye
  pointwise
  by_cases h : k = r
  · subst h
    have e : IntOp.cmpi CmpIPredicate.eq (BitVec.ofNat 32 k.val) (BitVec.ofNat 32 k.val) = 1#1 := by simp [IntOp.cmpi]
    rw [if_pos rfl, e]
    show (((1 : ℤ) : ℝ) : EReal) = 1
    norm_num
  · have e : IntOp.cmpi CmpIPredicate.eq (BitVec.ofNat 32 r.val) (BitVec.ofNat 32 k.val) = 0#1 := by
      have hr := r.isLt
      have hk := k.isLt
      have : BitVec.ofNat 32 r.val ≠ BitVec.ofNat 32 k.val := by
        intro hh
        have := congrArg BitVec.toNat hh
        simp only [BitVec.toNat_ofNat] at this
        exact h (Fin.ext (by omega))
      have e2 : (BitVec.ofNat 32 r.val == BitVec.ofNat 32 k.val) = false := beq_eq_false_iff_ne.mpr this
      show BitVec.ofBool (BitVec.ofNat 32 r.val == BitVec.ofNat 32 k.val) = 0#1
      rw [e2]; rfl
    rw [if_neg h, e]
    show (((0 : ℤ) : ℝ) : EReal) = 0
    norm_num

/-- The nibble of a byte: the low or the high one. -/
def nib (q : Bool) (b : BitVec 8) : BitVec 32 := if q then (b.zeroExtend 32).sshiftRight 4 else b.zeroExtend 32 &&& 15#32

theorem nibs_apply (p : IVec S1x512x128 8) (r : Fin 256) (l : Fin 512) :
    nibs p (ix2 r l) = nib (r.val % 2 = 1) (p (ix3 0 l ⟨r.val / 2, by omega⟩)) := by
  unfold nibs bytesT nib
  pointwise
  rcases Nat.mod_two_eq_zero_or_one r.val with h | h
  · simp only [h]; rfl
  · simp only [h]; rfl

theorem vals_apply (p : IVec S1x512x128 8) (r : Fin 256) (l : Fin 512) :
    (vals (F := Ideal) p) (ix2 r l) = (((signed (nibs p (ix2 r l))).toInt : ℝ) : EReal) := by
  unfold vals
  pointwise
  rw [signed]
  show (((Scalar.select (IntOp.cmpi CmpIPredicate.sge (nibs p (ix2 r l)) 8#32) (IntOp.subi (nibs p (ix2 r l)) 16#32) (nibs p (ix2 r l))).toInt : ℝ) : EReal) = _
  generalize nibs p (ix2 r l) = v
  cases h : (8#32).sle v <;> simp [Scalar.select, IntOp.cmpi, IntOp.subi, h]

theorem half_apply (q : Fin 2) (v : FVec Ideal S256x512 .bf16) (r : Fin 128) (l : Fin 512) :
    half q v (ix2 r l) = v (ix2 ⟨128 * q.val + r.val, by omega⟩ l) := by
  unfold half
  match q with
  | 0 => simp only [Fin.val_zero, if_true]; pointwise
  | 1 => simp only [Fin.val_one, one_ne_zero, if_false]; pointwise

/-- The weight of row `r` and column `l` before the update. -/
def dec (e : Env Ideal) (j : Fin 14) (i : Fin 8) (r : Fin 128) (l : Fin 512) : EReal :=
  (((signed (nib (r.val % 2 = 1) (e.cd (pr j ⟨i.val / 2, by omega⟩) (ix3 0 l ⟨64 * (i.val % 2) + r.val / 2, by omega⟩)))).toInt : ℝ) : EReal) * e.s2 (gi j i) (ix2 0 l)

theorem mB_apply (e : Env Ideal) (j : Fin 14) (i : Fin 8) (r : Fin 128) (l : Fin 512) :
    mB e j i (ix2 r l) = (∑ k : Fin 128, e.at' (gi j i) (ix2 r k) * e.bt (ix2 k l)) + dec e j i r l := by
  unfold mB
  pointwise
  congr 1
  rw [sum_pick r _ (fun k => (eye (F := Ideal)) (ix2 r k)) (by rw [eye_apply, if_pos rfl]) (fun k hk => by rw [eye_apply, if_neg hk]),
    half_apply, vals_apply, nibs_apply]
  unfold dec
  have h1 : (128 * (i.val % 2) + r.val) % 2 = r.val % 2 := by omega
  have h2 : (128 * (i.val % 2) + r.val) / 2 = 64 * (i.val % 2) + r.val / 2 := by omega
  simp only [h1, h2]

theorem abs8_apply (m : FVec Ideal S128x512 .f32) (k : Fin 16) (s : Fin 8) (l : Fin 512) :
    abs8 m k (ix2 s l) = ab (m (ix2 ⟨8 * k.val + s.val, by omega⟩ l)) := by
  unfold abs8
  pointwise
  rfl

theorem acc_le (m : FVec Ideal S128x512 .f32) (s : Fin 8) (l : Fin 512) (c : EReal) : ∀ (n : ℕ) (h : n < 16),
    acc m n h (ix2 s l) ≤ c ↔ ∀ k : Fin 16, k.val ≤ n → ab (m (ix2 ⟨8 * k.val + s.val, by omega⟩ l)) ≤ c
  | 0, h => by
    rw [acc, abs8_apply]
    exact ⟨fun hh k hk => by obtain rfl : k = 0 := Fin.ext (by simpa using hk); exact hh, fun hh => hh 0 le_rfl⟩
  | n + 1, h => by
    rw [acc]
    show max (acc m n _ (ix2 s l)) (abs8 m ⟨n + 1, h⟩ (ix2 s l)) ≤ c ↔ _
    rw [max_le_iff, acc_le m s l c n, abs8_apply]
    refine ⟨fun hh k hk => ?_, fun hh => ⟨fun k hk => hh k (by omega), hh ⟨n + 1, h⟩ le_rfl⟩⟩
    rcases Nat.lt_or_ge n k.val with h1 | h1
    · obtain rfl : k = ⟨n + 1, h⟩ := Fin.ext (show k.val = n + 1 by omega)
      exact hh.2
    · exact hh.1 k h1

theorem lane_apply (v : FVec Ideal S8x512 .f32) (t : Fin 4) (s : Fin 8) (l : Fin 128) :
    lane v t (ix3 0 s l) = v (ix2 s ⟨128 * t.val + l.val, by omega⟩) := by
  unfold lane
  pointwise

theorem ofBits_seven : Ideal.ofBits .f32 0x40E00000#32 = ((7 : ℝ) : EReal) := by
  simp [Ideal.ofBits, Ideal.ieee, -EReal.coe_mul]; norm_num

theorem ofBits_neg_seven : Ideal.ofBits .f32 0xC0E00000#32 = ((-7 : ℝ) : EReal) := by
  simp [Ideal.ofBits, Ideal.ieee, -EReal.coe_mul]; norm_num

theorem qz_apply (m : FVec Ideal S128x512 .f32) (x : FVec Ideal S1x512 .f32) (r : Fin 128) (l : Fin 512) :
    qz m x (ix2 r l) = Ideal.fptosi 32 (rnd (m (ix2 r l) * x (ix2 0 l))) := by
  unfold qz
  pointwise
  rw [ofBits_seven, ofBits_neg_seven]
  exact code4 _

theorem pack_apply (x : IVec S128x512 32) (r : Fin 64) (l : Fin 512) :
    pack x (ix2 r l) = BitVec.truncate 8 ((x (ix2 ⟨2 * r.val, by omega⟩ l) &&& 15#32) ||| ((x (ix2 ⟨2 * r.val + 1, by omega⟩ l) &&& 15#32) <<< 4)) := by
  unfold pack
  pointwise
  simp only [Nat.mul_comm r.val 2]
  rfl

end Cert.Block
-- ==== Proof.Reads.lean ====
module

public import proofs.«01_k».proof.Proof.Values

@[expose] public section

set_option maxRecDepth 16384

noncomputable section

/-! Every load of a buffer gives back the blocks stored last, and so the maxima, the scales and the codes of a chunk. -/

namespace Cert.Block

open Cert.KernelIdeal Cert.KernelIdeal.Gen Idealize.ShloMosaic Idealize.ShloMosaic.TcCoe Idealize.SL.Sem Cert.Scalar

/-- Where the newest stores are blocks of one function, an index of one of them holds that store's value. -/
theorem canon_of {s : Shape} {t : EltTy} (G : s.Idx → Elt Ideal t) (L L' : List (View.Piece (Elt Ideal) s t))
    (hL : ∀ p ∈ L, ∀ x : p.1.shape.Idx, p.2 x = G (p.1.emb x)) (p : View.Piece (Elt Ideal) s t) (hp : p ∈ L) (x : p.1.shape.Idx) :
    View.canon (L ++ L') (p.1.emb x) = p.2 x := by
  exact (View.canon_append_of_pieces G L' L hL _ ⟨p, hp, p.1.idx_mem x⟩).trans (hL p hp x).symm

theorem canon_of' {s : Shape} {t : EltTy} (G : s.Idx → Elt Ideal t) (L : List (View.Piece (Elt Ideal) s t))
    (hL : ∀ p ∈ L, ∀ x : p.1.shape.Idx, p.2 x = G (p.1.emb x)) (p : View.Piece (Elt Ideal) s t) (hp : p ∈ L) (x : p.1.shape.Idx) :
    View.canon L (p.1.emb x) = p.2 x := by
  have := canon_of G L [] hL p hp x
  rwa [List.append_nil] at this

theorem mem_down8 : ∀ i : Fin 8, i ∈ down8 := by decide
theorem mem_down4 : ∀ i : Fin 4, i ∈ down4 := by decide
theorem mem_downN : ∀ i : Fin 14, i ∈ downN := by decide

variable (b : Bufs) (e : Env Ideal)

theorem mList_eq (j : ℕ) (h : j < 14) : ∃ L', mList e j h = mNew e ⟨j, h⟩ ++ L' := by
  match j with
  | 0 => exact ⟨[], (List.append_nil _).symm⟩
  | 1 => exact ⟨[], (List.append_nil _).symm⟩
  | j + 2 => exact ⟨_, rfl⟩

theorem pList_eq (j : ℕ) (h : j < 14) : ∃ L', pList e j h = pNew e ⟨j, h⟩ ++ L' := by
  match j with
  | 0 => exact ⟨[], (List.append_nil _).symm⟩
  | 1 => exact ⟨[], (List.append_nil _).symm⟩
  | j + 2 => exact ⟨_, rfl⟩

theorem rList_eq (j : ℕ) (h : j < 14) : ∃ L', rList b e j h = [rPiece b e ⟨j, h⟩] ++ L' := by
  match j with
  | 0 => exact ⟨[], rfl⟩
  | 1 => exact ⟨[], rfl⟩
  | j + 2 => exact ⟨_, rfl⟩

/-- A group among the blocks of its chunk's buffer. -/
def mG (j : Fin 14) (y : S1024x512.Idx) : EReal :=
  mB e j ⟨(y 0).val / 128, by have := (y 0).isLt; change (y 0).val < 1024 at this; omega⟩ (ix2 ⟨(y 0).val % 128, by omega⟩ (y 1))

theorem mPiece_emb (j : Fin 14) (i : Fin 8) (r : Fin 128) (l : Fin 512) :
    (mPiece e j i).1.emb (ix2 r l : (⟨2, ![128, 512]⟩ : Shape).Idx) = (ix2 ⟨128 * i.val + r.val, by omega⟩ l : S1024x512.Idx) := by
  funext a
  match a with
  | 0 => exact Fin.ext (show 128 * i.val + 1 * r.val = 128 * i.val + r.val by omega)
  | 1 => exact Fin.ext (show 0 + 1 * l.val = l.val by omega)

theorem mPiece_val (j : Fin 14) (i : Fin 8) (r : Fin 128) (l : Fin 512) : (mPiece e j i).2 (ix2 r l : (⟨2, ![128, 512]⟩ : Shape).Idx) = mB e j i (ix2 r l) := by
  show shapeCast S128x512 (mB e j i) _ (ix2 r l) = _
  pointwise

theorem mNew_eq (j : Fin 14) : ∀ p ∈ mNew e j, ∀ x : p.1.shape.Idx, p.2 x = mG e j (p.1.emb x) := by
  intro p hp x
  obtain ⟨i, _, rfl⟩ := List.mem_map.mp hp
  obtain ⟨r, l, rfl⟩ : ∃ (r : Fin 128) (l : Fin 512), x = ix2 r l := ⟨x 0, x 1, eq_ix2 x⟩
  rw [mPiece_emb, mPiece_val]
  show _ = mB e j ⟨(128 * i.val + r.val) / 128, _⟩ (ix2 ⟨(128 * i.val + r.val) % 128, _⟩ l)
  congr 2
  · exact Fin.ext (show i.val = (128 * i.val + r.val) / 128 by omega)
  · exact Fin.ext (show r.val = (128 * i.val + r.val) % 128 by omega)

theorem mRead_apply (j : Fin 14) (i : Fin 8) (r : Fin 128) (l : Fin 512) : mRead b e j i (ix2 r l) = mB e j i (ix2 r l) := by
  unfold mRead
  rw [View.readCov_eq_canon']
  obtain ⟨L', h⟩ := mList_eq e j.val j.isLt
  rw [h]
  exact (canon_of (mG e j) (mNew e j) L' (mNew_eq e j) (mPiece e j i) (List.mem_map.mpr ⟨i, mem_down8 i, rfl⟩) (ix2 r l)).trans (mPiece_val e j i r l)

/-- The partial maxima among the blocks of their chunk's buffer. -/
def pG (j : Fin 14) (y : S4x64x128.Idx) : EReal :=
  acc (mB e j ⟨(y 1).val / 8, by have := (y 1).isLt; change (y 1).val < 64 at this; omega⟩) 15 (by omega) (ix2 ⟨(y 1).val % 8, by omega⟩
    ⟨128 * (y 0).val + (y 2).val, by have := (y 0).isLt; change (y 0).val < 4 at this; have := (y 2).isLt; change (y 2).val < 128 at this; omega⟩)

theorem pPiece_emb (j : Fin 14) (i : Fin 8) (t : Fin 4) (r : Fin 8) (l : Fin 128) :
    (pPiece e j i t).1.emb (ix3 0 r l : (⟨3, ![1, 8, 128]⟩ : Shape).Idx) = (ix3 t ⟨8 * i.val + r.val, by omega⟩ l : S4x64x128.Idx) := by
  funext a
  match a with
  | 0 => exact Fin.ext (show t.val + 1 * 0 = t.val by omega)
  | 1 => exact Fin.ext (show 8 * i.val + 1 * r.val = 8 * i.val + r.val by omega)
  | 2 => exact Fin.ext (show 0 + 1 * l.val = l.val by omega)

theorem pPiece_val (j : Fin 14) (i : Fin 8) (t : Fin 4) (r : Fin 8) (l : Fin 128) :
    (pPiece e j i t).2 (ix3 0 r l : (⟨3, ![1, 8, 128]⟩ : Shape).Idx) = acc (mB e j i) 15 (by omega) (ix2 r ⟨128 * t.val + l.val, by omega⟩) :=
  lane_apply (acc (mB e j i) 15 (by omega)) t r l

theorem pNew_eq (j : Fin 14) : ∀ p ∈ pNew e j, ∀ x : p.1.shape.Idx, p.2 x = pG e j (p.1.emb x) := by
  intro p hp x
  obtain ⟨i, _, hp⟩ := List.mem_flatMap.mp hp
  obtain ⟨t, _, rfl⟩ := List.mem_map.mp hp
  obtain ⟨r, l, rfl⟩ : ∃ (r : Fin 8) (l : Fin 128), x = ix3 0 r l := ⟨x 1, x 2, (eq_ix3 x).trans (by congr 1; exact Subsingleton.elim (α := Fin 1) _ _)⟩
  rw [pPiece_emb, pPiece_val]
  show _ = acc (mB e j ⟨(8 * i.val + r.val) / 8, _⟩) 15 _ (ix2 ⟨(8 * i.val + r.val) % 8, _⟩ ⟨128 * t.val + l.val, _⟩)
  congr 3
  · exact Fin.ext (show i.val = (8 * i.val + r.val) / 8 by omega)
  · exact Fin.ext (show r.val = (8 * i.val + r.val) % 8 by omega)

theorem pRead_apply (j : Fin 14) (t : Fin 4) (k : Fin 8) (i : Fin 8) (l : Fin 128) :
    pRead b e j t k (ix3 0 i l) = acc (mB e j i) 15 (by omega) (ix2 k ⟨128 * t.val + l.val, by omega⟩) := by
  unfold pRead
  rw [View.readCov_eq_canon']
  obtain ⟨L', h⟩ := pList_eq e j.val j.isLt
  rw [h]
  refine Eq.trans (congrArg _ ?_) ((canon_of (pG e j) (pNew e j) L' (pNew_eq e j) (pPiece e j i t)
    (List.mem_flatMap.mpr ⟨i, mem_down8 i, List.mem_map.mpr ⟨t, mem_down4 t, rfl⟩⟩) (ix3 0 k l)).trans (pPiece_val e j i t k l))
  rw [pPiece_emb]
  funext a
  match a with
  | 0 => exact Fin.ext (show t.val + 1 * 0 = t.val by omega)
  | 1 => exact Fin.ext (show k.val + 8 * i.val = 8 * i.val + k.val by omega)
  | 2 => exact Fin.ext (show 0 + 1 * l.val = l.val by omega)

theorem tmax_le (j : Fin 14) (t : Fin 4) (i : Fin 8) (l : Fin 128) (c : EReal) : ∀ (n : ℕ) (h : n < 8),
    tmax b e j t n h (ix2 i l) ≤ c ↔ ∀ k : Fin 8, k.val ≤ n → acc (mB e j i) 15 (by omega) (ix2 k ⟨128 * t.val + l.val, by omega⟩) ≤ c
  | 0, h => by
    have e1 : tmax b e j t 0 h (ix2 i l) = pRead b e j t 0 (ix3 0 i l) := by rw [tmax]; pointwise
    rw [e1, pRead_apply]
    exact ⟨fun hh k hk => by obtain rfl : k = 0 := Fin.ext (by simpa using hk); exact hh, fun hh => hh 0 le_rfl⟩
  | n + 1, h => by
    have e1 : tmax b e j t (n + 1) h (ix2 i l) = max (tmax b e j t n (by omega) (ix2 i l)) (pRead b e j t ⟨n + 1, h⟩ (ix3 0 i l)) := by rw [tmax]; pointwise
    rw [e1, max_le_iff, tmax_le j t i l c n, pRead_apply]
    refine ⟨fun hh k hk => ?_, fun hh => ⟨fun k hk => hh k (by omega), hh ⟨n + 1, h⟩ le_rfl⟩⟩
    rcases Nat.lt_or_ge n k.val with h1 | h1
    · obtain rfl : k = ⟨n + 1, h⟩ := Fin.ext (show k.val = n + 1 by omega)
      exact hh.2
    · exact hh.1 k h1

/-- The merged weights of one group and column. -/
def col (j : Fin 14) (i : Fin 8) (l : Fin 512) (r : Fin 128) : EReal := mB e j i (ix2 r l)

theorem tmax_eq (j : Fin 14) (t : Fin 4) (i : Fin 8) (l : Fin 128) :
    tmax b e j t 7 (by omega) (ix2 i l) = top (col e j i ⟨128 * t.val + l.val, by omega⟩) := by
  refine eq_top_of fun c => ?_
  rw [tmax_le]
  constructor
  · intro h r
    have := (acc_le _ _ _ _ _ _).mp (h ⟨r.val % 8, by omega⟩ (show r.val % 8 ≤ 7 by omega)) ⟨r.val / 8, by omega⟩ (show r.val / 8 ≤ 15 by omega)
    have hr : (⟨8 * (r.val / 8) + r.val % 8, by omega⟩ : Fin 128) = r := Fin.ext (show 8 * (r.val / 8) + r.val % 8 = r.val by omega)
    unfold col
    rwa [hr] at this
  · intro h k _
    rw [acc_le]
    intro k' _
    exact h ⟨8 * k'.val + k.val, by omega⟩

theorem amax_apply (j : Fin 14) (i : Fin 8) (l : Fin 512) : amax b e j (ix2 i l) = top (col e j i l) := by
  have key : ∀ (t : Fin 4) (l' : Fin 128) (h : l.val = 128 * t.val + l'.val), tmax b e j t 7 (by omega) (ix2 i l') = top (col e j i l) := by
    intro t l' h
    rw [tmax_eq]
    congr 2
    exact Fin.ext h.symm
  unfold amax
  pointwise
  have hl := l.isLt
  split
  · exact key 0 ⟨l.val, by omega⟩ (show l.val = 128 * 0 + l.val by omega)
  · split
    · exact key 1 ⟨l.val - 128, by omega⟩ (show l.val = 128 * 1 + (l.val - 128) by omega)
    · split
      · exact key 2 ⟨l.val - 128 - 128, by omega⟩ (show l.val = 128 * 2 + (l.val - 128 - 128) by omega)
      · exact key 3 ⟨l.val - 128 - 128 - 128, by omega⟩ (show l.val = 128 * 3 + (l.val - 128 - 128 - 128) by omega)

theorem sc_apply (j : Fin 14) (i : Fin 8) (l : Fin 512) : sc b e j (ix2 i l) = scale (top (col e j i l)) := by
  rw [← amax_apply b]
  unfold sc
  pointwise
  rw [ofBits_seven]
  rfl

theorem rPiece_emb (j : Fin 14) (i : Fin 8) (l : Fin 512) :
    (rPiece b e j).1.emb (ix2 i l : (⟨2, ![8, 512]⟩ : Shape).Idx) = (ix2 i l : S8x512.Idx) := by
  funext a
  match a with
  | 0 => exact Fin.ext (show 0 + 1 * i.val = i.val by omega)
  | 1 => exact Fin.ext (show 0 + 1 * l.val = l.val by omega)

theorem rPiece_val (j : Fin 14) (i : Fin 8) (l : Fin 512) :
    (rPiece b e j).2 (ix2 i l : (⟨2, ![8, 512]⟩ : Shape).Idx) = Ideal.div 1 (scale (top (col e j i l))) := by
  rw [← sc_apply b]
  show shapeCast S8x512 (divf (broadcast S8x512 (Scalar.ofBits .f32 0x3F800000#32)) (sc b e j)) _ (ix2 i l) = _
  pointwise

theorem rRead_apply (j : Fin 14) (i : Fin 8) (l : Fin 512) : rRead b e j i (ix2 0 l) = Ideal.div 1 (scale (top (col e j i l))) := by
  unfold rRead
  rw [View.readCov_eq_canon']
  obtain ⟨L', h⟩ := rList_eq b e j.val j.isLt
  rw [h]
  refine Eq.trans (congrArg _ ?_) ((canon_of (fun y : S8x512.Idx => Ideal.div 1 (scale (top (col e j (y 0) (y 1))))) [rPiece b e j] L' ?_ (rPiece b e j)
    (List.mem_singleton.mpr rfl) (ix2 i l)).trans (rPiece_val b e j i l))
  · rw [rPiece_emb]
    funext a
    match a with
    | 0 => exact Fin.ext (show i.val + 1 * 0 = i.val by omega)
    | 1 => exact Fin.ext (show 0 + 1 * l.val = l.val by omega)
  · intro p hp x
    obtain rfl := List.mem_singleton.mp hp
    obtain ⟨i', l', rfl⟩ : ∃ (i' : Fin 8) (l' : Fin 512), x = ix2 i' l' := ⟨x 0, x 1, eq_ix2 x⟩
    rw [rPiece_emb, rPiece_val]
    rfl

/-- The bytes of one group, as they are put together for the store. -/
theorem packed (j : Fin 14) (i : Fin 8) (r : Fin 64) (l : Fin 512) :
    pack (qz (mRead b e j i) (rRead b e j i)) (ix2 r l) = byte (col e j i l) r := by
  have hq : ∀ r' : Fin 128, qz (mRead b e j i) (rRead b e j i) (ix2 r' l) = code (col e j i l) r' := by
    intro r'
    rw [qz_apply, mRead_apply, rRead_apply, mul_recip _ (scale_ne _)]
    rfl
  rw [pack_apply, hq, hq]
  rfl

/-- Group `g` of all the groups. -/
def colG (g : Fin 112) : Fin 512 → Fin 128 → EReal := col e ⟨g.val / 8, by omega⟩ ⟨g.val % 8, by omega⟩

theorem colG_eq (j : Fin 14) (i : Fin 8) (g : Fin 112) (h : g.val = 8 * j.val + i.val) : colG e g = col e j i := by
  unfold colG
  congr 1
  · exact Fin.ext (show g.val / 8 = j.val by omega)
  · exact Fin.ext (show g.val % 8 = i.val by omega)

/-- The codes of a point. -/
def outB (y : S1x512x7168.Idx) : BitVec 8 :=
  byte (colG e ⟨(y 2).val / 64, by have := (y 2).isLt; change (y 2).val < 7168 at this; omega⟩ (y 1)) ⟨(y 2).val % 64, by omega⟩

/-- The scales of a point. -/
def outS (y : S1x512x112.Idx) : EReal := scale (top (colG e (y 2) (y 1)))

theorem oPiece_emb (j : Fin 14) (p : Fin 4) (n : Fin 512) (c : Fin 128) :
    (oPiece b e j p).1.emb (ix3 0 n c : (⟨3, ![1, 512, 128]⟩ : Shape).Idx) = (ix3 0 n ⟨128 * (4 * j.val + p.val) + c.val, by omega⟩ : S1x512x7168.Idx) := by
  funext a
  match a with
  | 0 => exact Fin.ext (show 0 + 1 * 0 = 0 by omega)
  | 1 => exact Fin.ext (show 0 + 1 * n.val = n.val by omega)
  | 2 => exact Fin.ext (show 128 * (4 * j.val + p.val) + 1 * c.val = 128 * (4 * j.val + p.val) + c.val by omega)

theorem oPiece_val (j : Fin 14) (p : Fin 4) (n : Fin 512) (c : Fin 128) :
    (oPiece b e j p).2 (ix3 0 n c : (⟨3, ![1, 512, 128]⟩ : Shape).Idx) = outB e (ix3 0 n ⟨128 * (4 * j.val + p.val) + c.val, by omega⟩) := by
  show shapeCast S1x512x128 (transpose S512x128 [1, 0] (concatenate S128x512 0
      [⟨S64x512, pack (qz (mRead b e j ⟨2 * p.val, by omega⟩) (rRead b e j ⟨2 * p.val, by omega⟩))⟩,
       ⟨S64x512, pack (qz (mRead b e j ⟨2 * p.val + 1, by omega⟩) (rRead b e j ⟨2 * p.val + 1, by omega⟩))⟩] concatenates_S64x512_S64x512_S128x512_d0) transposes_S128x512_p1_0_S512x128) shapeCasts_S512x128_S1x512x128 (ix3 0 n c)
    = byte (colG e ⟨(128 * (4 * j.val + p.val) + c.val) / 64, by omega⟩ n) ⟨(128 * (4 * j.val + p.val) + c.val) % 64, by omega⟩
  pointwise
  have hc := c.isLt
  split
  · rw [packed, colG_eq e j ⟨2 * p.val, by omega⟩ _ (show (128 * (4 * j.val + p.val) + c.val) / 64 = 8 * j.val + 2 * p.val by omega)]
    congr 1
    exact Fin.ext (show c.val = (128 * (4 * j.val + p.val) + c.val) % 64 by omega)
  · rw [packed, colG_eq e j ⟨2 * p.val + 1, by omega⟩ _ (show (128 * (4 * j.val + p.val) + c.val) / 64 = 8 * j.val + (2 * p.val + 1) by omega)]
    congr 1
    exact Fin.ext (show c.val - 64 = (128 * (4 * j.val + p.val) + c.val) % 64 by omega)

/-- What the point leaves of codes. -/
theorem out_codes : View.canon (oList b e) = outB e := by
  funext y
  obtain ⟨n, c, rfl⟩ : ∃ (n : Fin 512) (c : Fin 7168), y = ix3 0 n c := ⟨y 1, y 2, (eq_ix3 y).trans (by congr 1; exact Subsingleton.elim (α := Fin 1) _ _)⟩
  have hc := c.isLt
  refine Eq.trans (congrArg _ ?_) ((canon_of' (outB e) (oList b e) ?_ (oPiece b e ⟨c.val / 512, by omega⟩ ⟨c.val % 512 / 128, by omega⟩)
    (List.mem_flatMap.mpr ⟨_, mem_downN _, List.mem_map.mpr ⟨_, mem_down4 _, rfl⟩⟩) (ix3 0 n ⟨c.val % 128, by omega⟩)).trans ((oPiece_val b e _ _ _ _).trans (congrArg _ ?_)))
  · rw [oPiece_emb]
    congr 1
    exact Fin.ext (show c.val = 128 * (4 * (c.val / 512) + c.val % 512 / 128) + c.val % 128 by omega)
  · intro p hp x
    obtain ⟨j, _, hp⟩ := List.mem_flatMap.mp hp
    obtain ⟨p', _, rfl⟩ := List.mem_map.mp hp
    obtain ⟨n', c', rfl⟩ : ∃ (n' : Fin 512) (c' : Fin 128), x = ix3 0 n' c' := ⟨x 1, x 2, (eq_ix3 x).trans (by congr 1; exact Subsingleton.elim (α := Fin 1) _ _)⟩
    rw [oPiece_emb, oPiece_val]
  · congr 1
    exact Fin.ext (show 128 * (4 * (c.val / 512) + c.val % 512 / 128) + c.val % 128 = c.val by omega)

theorem sPiece_emb (j : Fin 14) (i : Fin 8) (l : Fin 512) :
    (sPiece b e j).1.emb (ix2 i l : (⟨2, ![8, 512]⟩ : Shape).Idx) = (ix2 ⟨8 * j.val + i.val, by omega⟩ l : S112x512.Idx) := by
  funext a
  match a with
  | 0 => exact Fin.ext (show 8 * j.val + 1 * i.val = 8 * j.val + i.val by omega)
  | 1 => exact Fin.ext (show 0 + 1 * l.val = l.val by omega)

theorem sPiece_val (j : Fin 14) (i : Fin 8) (l : Fin 512) :
    (sPiece b e j).2 (ix2 i l : (⟨2, ![8, 512]⟩ : Shape).Idx) = scale (top (colG e ⟨8 * j.val + i.val, by omega⟩ l)) := by
  rw [colG_eq e j i _ rfl, ← sc_apply b]
  show shapeCast S8x512 (sc b e j) _ (ix2 i l) = _
  pointwise

theorem os_canon (y : S112x512.Idx) : View.canon (downN.map (sPiece b e)) y = scale (top (colG e (y 0) (y 1))) := by
  obtain ⟨g, l, rfl⟩ : ∃ (g : Fin 112) (l : Fin 512), y = ix2 g l := ⟨y 0, y 1, eq_ix2 y⟩
  have hg := g.isLt
  refine Eq.trans (congrArg _ ?_) ((canon_of' (fun y : S112x512.Idx => scale (top (colG e (y 0) (y 1)))) (downN.map (sPiece b e)) ?_ (sPiece b e ⟨g.val / 8, by omega⟩)
    (List.mem_map.mpr ⟨_, mem_downN _, rfl⟩) (ix2 ⟨g.val % 8, by omega⟩ l)).trans ((sPiece_val b e _ _ _).trans ?_))
  · rw [sPiece_emb]
    congr 1
    exact Fin.ext (show g.val = 8 * (g.val / 8) + g.val % 8 by omega)
  · intro p hp x
    obtain ⟨j, _, rfl⟩ := List.mem_map.mp hp
    obtain ⟨i', l', rfl⟩ : ∃ (i' : Fin 8) (l' : Fin 512), x = ix2 i' l' := ⟨x 0, x 1, eq_ix2 x⟩
    rw [sPiece_emb, sPiece_val]
    rfl
  · show scale (top (colG e ⟨8 * (g.val / 8) + g.val % 8, _⟩ l)) = scale (top (colG e g l))
    congr 3
    exact Fin.ext (show 8 * (g.val / 8) + g.val % 8 = g.val by omega)

theorem scT_apply (n : Fin 512) (g : Fin 112) : scT b e (ix3 0 n g) = scale (top (colG e g n)) := by
  unfold scT
  rw [View.readCov_eq_canon']
  simp only [os_canon]
  pointwise

theorem os_whole : View.canon (osList b e) = scT b e :=
  View.canon_unit_zero (by
    funext a
    match a with
    | 0 => rfl
    | 1 => rfl
    | 2 => rfl) _ _

/-- What the point leaves of scales. -/
theorem out_scales : View.canon (osList b e) = outS e := by
  funext y
  obtain ⟨n, g, rfl⟩ : ∃ (n : Fin 512) (g : Fin 112), y = ix3 0 n g := ⟨y 1, y 2, (eq_ix3 y).trans (by congr 1; exact Subsingleton.elim (α := Fin 1) _ _)⟩
  rw [os_whole]
  exact scT_apply b e n g

end Cert.Block
-- ==== Proof.Runs.lean ====
module

public import proofs.«01_k».proof.Proof.Block

@[expose] public section

set_option maxRecDepth 65536
set_option maxHeartbeats 0

noncomputable section

/-! The run of one grid point leaves exactly the blocks of `Cert.Block`, in both cases: each list the run found is, unfolded, the list of the formulas. -/

namespace Cert.Block

open Cert.KernelIdeal Cert.KernelIdeal.Gen Idealize.ShloMosaic Idealize.ShloMosaic.TcCoe Idealize.ShloMosaic.Tactic Idealize.SL.Sem

variable {F : FTy → Type} [FloatOps F]

/-- The transposed second factor as stored and loaded again. -/
def btRead {arg5 : Memref sig .tc .vmem S1x512x128 .bf16} (harg5 : arg5.IsWhole) (v9 : View sig .tc .vmem S128x512 .bf16) (x3 : Vec F S1x512x128 .bf16) : FVec F S128x512 .bf16 :=
  v9.readCov (Val := Elt F) [⟨Rect.unit (s := S128x512) ![0, 0] S128x512.size inb_S128x512_S128x512_0_0, k0_pay16 (View.readAt (Elt F) arg5.view (Rect.unit (s := S1x512x128) ![0, 0, 0] S1x512x128.size inb_S1x512x128_S1x512x128_0_0_0).toLoadRect (harg5.unread x3))⟩]
    (Rect.unit (s := S128x512) ![0, 0] S128x512.size inb_S128x512_S128x512_0_0).toLoadRect

/-- A row of the transposed scales as stored and loaded again. -/
def s2Read {arg3 : Memref sig .tc .vmem S1x512x112 .bf16} (harg3 : arg3.IsWhole) (v10 : View sig .tc .vmem S112x512 .f32) (x1 : Vec F S1x512x112 .bf16) (g : Fin 112) : FVec F S1x512 .f32 :=
  v10.readCov (Val := Elt F) [⟨Rect.unit (s := S112x512) ![0, 0] S112x512.size inb_S112x512_S112x512_0_0, k0_pay17 (View.readAt (Elt F) arg3.view (Rect.unit (s := S1x512x112) ![0, 0, 0] S1x512x112.size inb_S1x512x112_S1x512x112_0_0_0).toLoadRect (harg3.unread x1))⟩]
    (Rect.unit (s := S112x512) ![g.val, 0] S1x512.size (fun a => by
      have := g.isLt; match a with | 0 => show g.val + 1 ≤ 112; omega | 1 => show 0 + 512 ≤ 512; omega)).toLoadRect

/-- The bytes of a pair of groups as loaded. -/
def cdRead {arg2 : Memref sig .tc .vmem S1x512x7168 .i8} (harg2 : arg2.IsWhole) (x0 : Vec F S1x512x7168 .i8) (p : Fin 56) : IVec S1x512x128 8 :=
  View.readAt (Elt F) arg2.view (Rect.unit (s := S1x512x7168) ![0, 0, 128 * p.val] S1x512x128.size (fun a => by
      have := p.isLt; match a with | 0 => show 0 + 1 ≤ 1; omega | 1 => show 0 + 512 ≤ 512; omega | 2 => show 128 * p.val + 128 ≤ 7168; omega)).toLoadRect (harg2.unread x0)

/-- The transposed first factor's block of columns `c`. -/
def aPiece {arg4 : Memref sig .tc .vmem S1x128x14336 .bf16} (harg4 : arg4.IsWhole) (x2 : Vec F S1x128x14336 .bf16) (c : Fin 14) : View.Piece (Elt F) S14336x128 .bf16 :=
  ⟨Rect.unit (s := S14336x128) ![1024 * c.val, 0] S1024x128.size (fun a => by
      have := c.isLt; match a with | 0 => show 1024 * c.val + 1024 ≤ 14336; omega | 1 => show 0 + 128 ≤ 128; omega),
    k0_pay2 (View.readAt (Elt F) arg4.view (Rect.unit (s := S1x128x14336) ![0, 0, 1024 * c.val] S1x128x1024.size (fun a => by
      have := c.isLt; match a with | 0 => show 0 + 1 ≤ 1; omega | 1 => show 0 + 128 ≤ 128; omega | 2 => show 1024 * c.val + 1024 ≤ 14336; omega)).toLoadRect (harg4.unread x2))⟩

def downA : List (Fin 14) := [13, 12, 11, 10, 9, 8, 7, 6, 5, 4, 3, 2, 1, 0]
def aList {arg4 : Memref sig .tc .vmem S1x128x14336 .bf16} (harg4 : arg4.IsWhole) (x2 : Vec F S1x128x14336 .bf16) : List (View.Piece (Elt F) S14336x128 .bf16) :=
  downA.map (aPiece harg4 x2)

/-- The rectangle of a group's rows in the transposed first factor. -/
def aRect (g : Fin 112) : Rect S14336x128 := Rect.unit (s := S14336x128) ![128 * g.val, 0] S128x128.size (fun a => by
      have := g.isLt; match a with | 0 => show 128 * g.val + 128 ≤ 14336; omega | 1 => show 0 + 128 ≤ 128; omega)

/-- What the merging reads at a point that has just transposed the first factor. -/
def envA {arg2 : Memref sig .tc .vmem S1x512x7168 .i8} (harg2 : arg2.IsWhole) {arg3 : Memref sig .tc .vmem S1x512x112 .bf16} (harg3 : arg3.IsWhole) {arg4 : Memref sig .tc .vmem S1x128x14336 .bf16} (harg4 : arg4.IsWhole) {arg5 : Memref sig .tc .vmem S1x512x128 .bf16} (harg5 : arg5.IsWhole)
    (v8 : View sig .tc .vmem S14336x128 .bf16) (v9 : View sig .tc .vmem S128x512 .bf16) (v10 : View sig .tc .vmem S112x512 .f32)
    (x0 : Vec F S1x512x7168 .i8) (x1 : Vec F S1x512x112 .bf16) (x2 : Vec F S1x128x14336 .bf16) (x3 : Vec F S1x512x128 .bf16) : Env F where
  at' g := v8.readCov (aList harg4 x2) (aRect g).toLoadRect
  bt := btRead harg5 v9 x3
  s2 := s2Read harg3 v10 x1
  cd := cdRead harg2 x0

/-- What it reads at a point where the first factor was transposed before. -/
def envB {arg2 : Memref sig .tc .vmem S1x512x7168 .i8} (harg2 : arg2.IsWhole) {arg3 : Memref sig .tc .vmem S1x512x112 .bf16} (harg3 : arg3.IsWhole) {arg8 : Memref sig .tc .vmem S14336x128 .bf16} (harg8 : arg8.IsWhole) {arg5 : Memref sig .tc .vmem S1x512x128 .bf16} (harg5 : arg5.IsWhole)
    (v9 : View sig .tc .vmem S128x512 .bf16) (v10 : View sig .tc .vmem S112x512 .f32)
    (x0 : Vec F S1x512x7168 .i8) (x1 : Vec F S1x512x112 .bf16) (xs0 : Vec F S14336x128 .bf16) (x3 : Vec F S1x512x128 .bf16) : Env F where
  at' g := View.readAt (Elt F) arg8.view (aRect g).toLoadRect (harg8.unread xs0)
  bt := btRead harg5 v9 x3
  s2 := s2Read harg3 v10 x1
  cd := cdRead harg2 x0

end Cert.Block
-- ==== Proof.Envs.lean ====
module

public import proofs.«01_k».proof.Proof.Reads
public import proofs.«01_k».proof.Proof.Runs

@[expose] public section

set_option maxRecDepth 16384

noncomputable section

/-! What one grid point reads of its input blocks, and the merged weight as a function of the blocks. -/

namespace Cert.Block

open Cert.KernelIdeal Cert.KernelIdeal.Gen Idealize.ShloMosaic Idealize.ShloMosaic.TcCoe Idealize.SL.Sem Cert.Scalar

theorem ofBits_eighth : Ideal.ofBits .bf16 0x3E00#16 = (((1 : ℝ) / 8 : ℝ) : EReal) := by
  simp [Ideal.ofBits, Ideal.ieee, -EReal.coe_mul]; norm_num

/-- What a point's reads are, in terms of its blocks. -/
structure IsEnv (e : Env Ideal) (x0 : Vec Ideal S1x512x7168 .i8) (x1 : Vec Ideal S1x512x112 .bf16) (x2 : Vec Ideal S1x128x14336 .bf16) (x3 : Vec Ideal S1x512x128 .bf16) : Prop where
  hat : ∀ (g : Fin 112) (r k : Fin 128), e.at' g (ix2 r k) = x2 (ix3 0 k ⟨128 * g.val + r.val, by omega⟩)
  hbt : ∀ (k : Fin 128) (l : Fin 512), e.bt (ix2 k l) = x3 (ix3 0 l k) * (((1 : ℝ) / 8 : ℝ) : EReal)
  hs : ∀ (g : Fin 112) (l : Fin 512), e.s2 g (ix2 0 l) = x1 (ix3 0 l g)
  hcd : ∀ (p : Fin 56) (l : Fin 512) (k : Fin 128), e.cd p (ix3 0 l k) = x0 (ix3 0 l ⟨128 * p.val + k.val, by omega⟩)

/-- The decoded weight of row `l`, group `g`, place `r` of the group. -/
def dq (x0 : Vec Ideal S1x512x7168 .i8) (x1 : Vec Ideal S1x512x112 .bf16) (g : Fin 112) (l : Fin 512) (r : Fin 128) : EReal :=
  (((signed (nib (r.val % 2 = 1) (x0 (ix3 0 l ⟨64 * g.val + r.val / 2, by omega⟩)))).toInt : ℝ) : EReal) * x1 (ix3 0 l g)

/-- The merged weight. -/
def mg (x0 : Vec Ideal S1x512x7168 .i8) (x1 : Vec Ideal S1x512x112 .bf16) (x2 : Vec Ideal S1x128x14336 .bf16) (x3 : Vec Ideal S1x512x128 .bf16) (g : Fin 112) (l : Fin 512) (r : Fin 128) : EReal :=
  dq x0 x1 g l r + (((1 : ℝ) / 8 : ℝ) : EReal) * ∑ k : Fin 128, x3 (ix3 0 l k) * x2 (ix3 0 k ⟨128 * g.val + r.val, by omega⟩)

theorem colG_mg {e : Env Ideal} {x0 x1 x2 x3} (h : IsEnv e x0 x1 x2 x3) (g : Fin 112) (l : Fin 512) : colG e g l = mg x0 x1 x2 x3 g l := by
  funext r
  have hg : gi (⟨g.val / 8, by omega⟩ : Fin 14) (⟨g.val % 8, by omega⟩ : Fin 8) = g := Fin.ext (show 8 * (g.val / 8) + g.val % 8 = g.val by omega)
  show mB e _ _ (ix2 r l) = _
  rw [mB_apply, add_comm]
  unfold mg dq dec
  rw [mul_sum _ (by norm_num), hg, h.hs, h.hcd]
  congr 1
  · have hi : (⟨128 * (pr (⟨g.val / 8, by omega⟩ : Fin 14) (⟨g.val % 8 / 2, by omega⟩ : Fin 4)).val + (64 * (g.val % 8 % 2) + r.val / 2), by have := (pr (⟨g.val / 8, by omega⟩ : Fin 14) (⟨g.val % 8 / 2, by omega⟩ : Fin 4)).isLt; omega⟩ : Fin 7168) = ⟨64 * g.val + r.val / 2, by omega⟩ :=
      Fin.ext (show 128 * (4 * (g.val / 8) + g.val % 8 / 2) + (64 * (g.val % 8 % 2) + r.val / 2) = 64 * g.val + r.val / 2 by omega)
    rw [← hi]
  · refine Finset.sum_congr rfl fun k _ => ?_
    rw [h.hat, h.hbt, mul_comm, mul_comm (x3 _) _, mul_assoc]

variable {arg2 : Memref sig .tc .vmem S1x512x7168 .i8} (harg2 : arg2.IsWhole) {arg3 : Memref sig .tc .vmem S1x512x112 .bf16} (harg3 : arg3.IsWhole) {arg4 : Memref sig .tc .vmem S1x128x14336 .bf16} (harg4 : arg4.IsWhole) {arg5 : Memref sig .tc .vmem S1x512x128 .bf16} (harg5 : arg5.IsWhole)
  {arg8 : Memref sig .tc .vmem S14336x128 .bf16} (harg8 : arg8.IsWhole) (v8 : View sig .tc .vmem S14336x128 .bf16) (v9 : View sig .tc .vmem S128x512 .bf16) (v10 : View sig .tc .vmem S112x512 .f32)
  (x0 : Vec Ideal S1x512x7168 .i8) (x1 : Vec Ideal S1x512x112 .bf16) (x2 : Vec Ideal S1x128x14336 .bf16) (x3 : Vec Ideal S1x512x128 .bf16) (xs0 : Vec Ideal S14336x128 .bf16)

theorem btRead_apply (k : Fin 128) (l : Fin 512) : btRead harg5 v9 x3 (ix2 k l) = x3 (ix3 0 l k) * (((1 : ℝ) / 8 : ℝ) : EReal) := by
  unfold btRead
  rw [View.readCov_eq_canon', View.canon_unit_zero (by funext a; match a with | 0 => rfl | 1 => rfl)]
  unfold k0_pay16 View.readAt
  rw [harg5.read_unread]
  pointwise
  rw [ofBits_eighth]

theorem s2Read_apply (g : Fin 112) (l : Fin 512) : s2Read harg3 v10 x1 g (ix2 0 l) = x1 (ix3 0 l g) := by
  unfold s2Read
  rw [View.readCov_eq_canon', View.canon_unit_zero (by funext a; match a with | 0 => rfl | 1 => rfl)]
  unfold k0_pay17 View.readAt
  rw [harg3.read_unread]
  pointwise

theorem cdRead_apply (p : Fin 56) (l : Fin 512) (k : Fin 128) : cdRead (F := Ideal) harg2 x0 p (ix3 0 l k) = x0 (ix3 0 l ⟨128 * p.val + k.val, by omega⟩) := by
  unfold cdRead View.readAt
  rw [harg2.read_unread]
  refine congrArg x0 ?_
  funext a
  match a with
  | 0 => exact Fin.ext (show 0 + 1 * 0 = 0 by omega)
  | 1 => exact Fin.ext (show 0 + 1 * l.val = l.val by omega)
  | 2 => exact Fin.ext (show 128 * p.val + 1 * k.val = 128 * p.val + k.val by omega)

theorem aRect_idx (g : Fin 112) (r k : Fin 128) : (aRect g).toLoadRect.idx (ix2 r k : (⟨2, ![128, 128]⟩ : Shape).Idx) = (ix2 ⟨128 * g.val + r.val, by omega⟩ k : S14336x128.Idx) := by
  funext a
  match a with
  | 0 => exact Fin.ext (show 128 * g.val + 1 * r.val = 128 * g.val + r.val by omega)
  | 1 => exact Fin.ext (show 0 + 1 * k.val = k.val by omega)

theorem aPiece_emb (c : Fin 14) (d : Fin 1024) (k : Fin 128) :
    (aPiece harg4 x2 c).1.emb (ix2 d k : (⟨2, ![1024, 128]⟩ : Shape).Idx) = (ix2 ⟨1024 * c.val + d.val, by omega⟩ k : S14336x128.Idx) := by
  funext a
  match a with
  | 0 => exact Fin.ext (show 1024 * c.val + 1 * d.val = 1024 * c.val + d.val by omega)
  | 1 => exact Fin.ext (show 0 + 1 * k.val = k.val by omega)

theorem aPiece_val (c : Fin 14) (d : Fin 1024) (k : Fin 128) :
    (aPiece harg4 x2 c).2 (ix2 d k : (⟨2, ![1024, 128]⟩ : Shape).Idx) = x2 (ix3 0 k ⟨1024 * c.val + d.val, by omega⟩) := by
  unfold aPiece k0_pay2 View.readAt
  dsimp only
  rw [harg4.read_unread]
  pointwise

theorem mem_downA (c : Fin 14) : c ∈ downA := by
  revert c
  decide

/-- The first factor transposed. -/
theorem a_canon : View.canon (aList harg4 x2) = fun y : S14336x128.Idx => x2 (ix3 0 (y 1) (y 0)) := by
  funext y
  obtain ⟨d, k, rfl⟩ : ∃ (d : Fin 14336) (k : Fin 128), y = ix2 d k := ⟨y 0, y 1, eq_ix2 y⟩
  have hd := d.isLt
  refine Eq.trans (congrArg _ ?_) ((canon_of' (fun y : S14336x128.Idx => x2 (ix3 0 (y 1) (y 0))) (aList harg4 x2) ?_ (aPiece harg4 x2 ⟨d.val / 1024, by omega⟩)
    (List.mem_map.mpr ⟨_, mem_downA _, rfl⟩) (ix2 ⟨d.val % 1024, by omega⟩ k)).trans ((aPiece_val harg4 x2 _ _ _).trans (congrArg x2 ?_)))
  · rw [aPiece_emb]
    congr 1
    exact Fin.ext (show d.val = 1024 * (d.val / 1024) + d.val % 1024 by omega)
  · intro p hp x
    obtain ⟨c, _, rfl⟩ := List.mem_map.mp hp
    obtain ⟨d', k', rfl⟩ : ∃ (d' : Fin 1024) (k' : Fin 128), x = ix2 d' k' := ⟨x 0, x 1, eq_ix2 x⟩
    rw [aPiece_emb, aPiece_val]
    rfl
  · congr 1
    exact Fin.ext (show 1024 * (d.val / 1024) + d.val % 1024 = d.val by omega)

theorem isEnvA : IsEnv (envA harg2 harg3 harg4 harg5 v8 v9 v10 x0 x1 x2 x3) x0 x1 x2 x3 where
  hat g r k := by
    show v8.readCov (aList harg4 x2) (aRect g).toLoadRect (ix2 r k) = _
    rw [View.readCov_eq_canon']
    show View.canon (aList harg4 x2) ((aRect g).toLoadRect.idx (ix2 r k)) = _
    rw [aRect_idx, a_canon]
    rfl
  hbt := btRead_apply harg5 v9 x3
  hs := s2Read_apply harg3 v10 x1
  hcd := cdRead_apply harg2 x0

theorem isEnvB (hx : ∀ (d : Fin 14336) (k : Fin 128), xs0 (ix2 d k) = x2 (ix3 0 k d)) : IsEnv (envB harg2 harg3 harg8 harg5 v9 v10 x0 x1 xs0 x3) x0 x1 x2 x3 where
  hat g r k := by
    show View.read (Elt Ideal) arg8.view (harg8.unread xs0) ((aRect g).toLoadRect.idx (ix2 r k)) = _
    rw [harg8.read_unread, aRect_idx]
    exact hx _ _
  hbt := btRead_apply harg5 v9 x3
  hs := s2Read_apply harg3 v10 x1
  hcd := cdRead_apply harg2 x0

/-- The codes and scales of a point as functions of its blocks. -/
def cdOf (x0 : Vec Ideal S1x512x7168 .i8) (x1 : Vec Ideal S1x512x112 .bf16) (x2 : Vec Ideal S1x128x14336 .bf16) (x3 : Vec Ideal S1x512x128 .bf16) (l : Fin 512) (c : Fin 7168) : BitVec 8 :=
  byte (mg x0 x1 x2 x3 ⟨c.val / 64, by omega⟩ l) ⟨c.val % 64, by omega⟩

theorem outB_of {e : Env Ideal} {x0 x1 x2 x3} (h : IsEnv e x0 x1 x2 x3) (l : Fin 512) (c : Fin 7168) : outB e (ix3 0 l c) = cdOf x0 x1 x2 x3 l c := by
  show byte (colG e ⟨c.val / 64, _⟩ l) ⟨c.val % 64, _⟩ = _
  rw [colG_mg h]
  rfl

theorem outS_of {e : Env Ideal} {x0 x1 x2 x3} (h : IsEnv e x0 x1 x2 x3) (l : Fin 512) (g : Fin 112) : outS e (ix3 0 l g) = scale (top (mg x0 x1 x2 x3 g l)) := by
  show scale (top (colG e g l)) = _
  rw [colG_mg h]

end Cert.Block
-- ==== Proof.RunA.lean ====
module

public import proofs.«01_k».proof.Proof.Runs

@[expose] public section

set_option maxRecDepth 65536
set_option maxHeartbeats 0

noncomputable section

namespace Cert.Block

open Cert.KernelIdeal Cert.KernelIdeal.Gen Idealize.ShloMosaic Idealize.ShloMosaic.TcCoe Idealize.ShloMosaic.Tactic Idealize.SL.Sem

variable {F : FTy → Type} [FloatOps F]

variable (c : Dev nD) (i : grid0.Coords) {arg2 : Memref sig .tc .vmem S1x512x7168 .i8} (harg2 : arg2.IsWhole) {arg3 : Memref sig .tc .vmem S1x512x112 .bf16} (harg3 : arg3.IsWhole) {arg4 : Memref sig .tc .vmem S1x128x14336 .bf16} (harg4 : arg4.IsWhole) {arg5 : Memref sig .tc .vmem S1x512x128 .bf16} (harg5 : arg5.IsWhole) {arg6 : Memref sig .tc .vmem S1x512x7168 .i8} (harg6 : arg6.IsWhole) {arg7 : Memref sig .tc .vmem S1x512x112 .bf16} (harg7 : arg7.IsWhole) {arg8 : Memref sig .tc .vmem S14336x128 .bf16} (harg8 : arg8.IsWhole) {arg9 : Memref sig .tc .vmem S128x512 .bf16} (harg9 : arg9.IsWhole) {arg10 : Memref sig .tc .vmem S112x512 .f32} (harg10 : arg10.IsWhole) {arg11 : Memref sig .tc .vmem S112x512 .f32} (harg11 : arg11.IsWhole) {arg12 : Memref sig .tc .vmem S1024x512 .f32} (harg12 : arg12.IsWhole) {arg13 : Memref sig .tc .vmem S1024x512 .f32} (harg13 : arg13.IsWhole) {arg14 : Memref sig .tc .vmem S4x64x128 .f32} (harg14 : arg14.IsWhole) {arg15 : Memref sig .tc .vmem S4x64x128 .f32} (harg15 : arg15.IsWhole) {arg16 : Memref sig .tc .vmem S8x512 .f32} (harg16 : arg16.IsWhole) {arg17 : Memref sig .tc .vmem S8x512 .f32} (harg17 : arg17.IsWhole) (x0 : Vec F S1x512x7168 .i8) (x1 : Vec F S1x512x112 .bf16) (x2 : Vec F S1x128x14336 .bf16) (x3 : Vec F S1x512x128 .bf16) (xs0 : Vec F S14336x128 .bf16)

theorem runA_at (hc0 : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3).2.2.1 = aList harg4 x2 := by
  sl_kernel_rfl

theorem runA_sc (hc0 : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3).2.1 = osList ⟨arg12.view, arg13.view, arg14.view, arg15.view, arg16.view, arg17.view, arg11.view⟩ (envA harg2 harg3 harg4 harg5 arg8.view arg9.view arg10.view x0 x1 x2 x3) := by
  sl_kernel_rfl

theorem runA_out (hc0 : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3).1 = oList ⟨arg12.view, arg13.view, arg14.view, arg15.view, arg16.view, arg17.view, arg11.view⟩ (envA harg2 harg3 harg4 harg5 arg8.view arg9.view arg10.view x0 x1 x2 x3) := by
  sl_kernel_rfl

end Cert.Block
-- ==== Proof.RunB.lean ====
module

public import proofs.«01_k».proof.Proof.Runs

@[expose] public section

set_option maxRecDepth 65536
set_option maxHeartbeats 0

noncomputable section

namespace Cert.Block

open Cert.KernelIdeal Cert.KernelIdeal.Gen Idealize.ShloMosaic Idealize.ShloMosaic.TcCoe Idealize.ShloMosaic.Tactic Idealize.SL.Sem

variable {F : FTy → Type} [FloatOps F]

variable (c : Dev nD) (i : grid0.Coords) {arg2 : Memref sig .tc .vmem S1x512x7168 .i8} (harg2 : arg2.IsWhole) {arg3 : Memref sig .tc .vmem S1x512x112 .bf16} (harg3 : arg3.IsWhole) {arg4 : Memref sig .tc .vmem S1x128x14336 .bf16} (harg4 : arg4.IsWhole) {arg5 : Memref sig .tc .vmem S1x512x128 .bf16} (harg5 : arg5.IsWhole) {arg6 : Memref sig .tc .vmem S1x512x7168 .i8} (harg6 : arg6.IsWhole) {arg7 : Memref sig .tc .vmem S1x512x112 .bf16} (harg7 : arg7.IsWhole) {arg8 : Memref sig .tc .vmem S14336x128 .bf16} (harg8 : arg8.IsWhole) {arg9 : Memref sig .tc .vmem S128x512 .bf16} (harg9 : arg9.IsWhole) {arg10 : Memref sig .tc .vmem S112x512 .f32} (harg10 : arg10.IsWhole) {arg11 : Memref sig .tc .vmem S112x512 .f32} (harg11 : arg11.IsWhole) {arg12 : Memref sig .tc .vmem S1024x512 .f32} (harg12 : arg12.IsWhole) {arg13 : Memref sig .tc .vmem S1024x512 .f32} (harg13 : arg13.IsWhole) {arg14 : Memref sig .tc .vmem S4x64x128 .f32} (harg14 : arg14.IsWhole) {arg15 : Memref sig .tc .vmem S4x64x128 .f32} (harg15 : arg15.IsWhole) {arg16 : Memref sig .tc .vmem S8x512 .f32} (harg16 : arg16.IsWhole) {arg17 : Memref sig .tc .vmem S8x512 .f32} (harg17 : arg17.IsWhole) (x0 : Vec F S1x512x7168 .i8) (x1 : Vec F S1x512x112 .bf16) (x2 : Vec F S1x128x14336 .bf16) (x3 : Vec F S1x512x128 .bf16) (xs0 : Vec F S14336x128 .bf16)

theorem runB_sc (hc0 : ¬cond0_0 i) : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 xs0).2.1 = osList ⟨arg12.view, arg13.view, arg14.view, arg15.view, arg16.view, arg17.view, arg11.view⟩ (envB harg2 harg3 harg8 harg5 arg9.view arg10.view x0 x1 xs0 x3) := by
  sl_kernel_rfl

theorem runB_out (hc0 : ¬cond0_0 i) : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 xs0).1 = oList ⟨arg12.view, arg13.view, arg14.view, arg15.view, arg16.view, arg17.view, arg11.view⟩ (envB harg2 harg3 harg8 harg5 arg9.view arg10.view x0 x1 xs0 x3) := by
  sl_kernel_rfl

end Cert.Block
-- ==== Proof.Points.lean ====
module

public import proofs.«01_k».proof.Proof.Gen.KernelIdeal.Value
public import proofs.«01_k».proof.Proof.Envs
public import proofs.«01_k».proof.Proof.RunA
public import proofs.«01_k».proof.Proof.RunB

@[expose] public section

set_option maxRecDepth 16384

noncomputable section

/-! What every point of the grid leaves, as a function of its blocks. -/

namespace Cert.Block

open Cert.KernelIdeal Cert.KernelIdeal.Gen Idealize.ShloMosaic Idealize.ShloMosaic.TcCoe Idealize.SL.Sem Cert.Scalar

section Cases

variable (c : Dev nD) (i : grid0.Coords) {arg2 : Memref sig .tc .vmem S1x512x7168 .i8} (harg2 : arg2.IsWhole) {arg3 : Memref sig .tc .vmem S1x512x112 .bf16} (harg3 : arg3.IsWhole) {arg4 : Memref sig .tc .vmem S1x128x14336 .bf16} (harg4 : arg4.IsWhole) {arg5 : Memref sig .tc .vmem S1x512x128 .bf16} (harg5 : arg5.IsWhole) {arg6 : Memref sig .tc .vmem S1x512x7168 .i8} (harg6 : arg6.IsWhole) {arg7 : Memref sig .tc .vmem S1x512x112 .bf16} (harg7 : arg7.IsWhole) {arg8 : Memref sig .tc .vmem S14336x128 .bf16} (harg8 : arg8.IsWhole) {arg9 : Memref sig .tc .vmem S128x512 .bf16} (harg9 : arg9.IsWhole) {arg10 : Memref sig .tc .vmem S112x512 .f32} (harg10 : arg10.IsWhole) {arg11 : Memref sig .tc .vmem S112x512 .f32} (harg11 : arg11.IsWhole) {arg12 : Memref sig .tc .vmem S1024x512 .f32} (harg12 : arg12.IsWhole) {arg13 : Memref sig .tc .vmem S1024x512 .f32} (harg13 : arg13.IsWhole) {arg14 : Memref sig .tc .vmem S4x64x128 .f32} (harg14 : arg14.IsWhole) {arg15 : Memref sig .tc .vmem S4x64x128 .f32} (harg15 : arg15.IsWhole) {arg16 : Memref sig .tc .vmem S8x512 .f32} (harg16 : arg16.IsWhole) {arg17 : Memref sig .tc .vmem S8x512 .f32} (harg17 : arg17.IsWhole) (x0 : Vec Ideal S1x512x7168 .i8) (x1 : Vec Ideal S1x512x112 .bf16) (x2 : Vec Ideal S1x128x14336 .bf16) (x3 : Vec Ideal S1x512x128 .bf16) (xs0 : Vec Ideal S14336x128 .bf16)

theorem outA_codes (hc0 : cond0_0 i) (l : Fin 512) (k : Fin 7168) : out0_A_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 (ix3 0 l k) = cdOf x0 x1 x2 x3 l k := by
  unfold out0_A_4
  rw [View.read_writes_junk_eq_canon, runA_out, out_codes]
  exact outB_of (isEnvA harg2 harg3 harg4 harg5 _ _ _ x0 x1 x2 x3) l k

theorem outA_scales (hc0 : cond0_0 i) (l : Fin 512) (g : Fin 112) : out0_A_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 (ix3 0 l g) = scale (top (mg x0 x1 x2 x3 g l)) := by
  unfold out0_A_5
  rw [View.read_writes_junk_eq_canon, runA_sc, out_scales]
  exact outS_of (isEnvA harg2 harg3 harg4 harg5 _ _ _ x0 x1 x2 x3) l g

theorem outA_at (hc0 : cond0_0 i) (d : Fin 14336) (k : Fin 128) : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 (ix2 d k) = x2 (ix3 0 k d) := by
  unfold sout0_A_0
  rw [View.read_writes_junk_eq_canon, runA_at, a_canon]
  rfl

variable (hx : ∀ (d : Fin 14336) (k : Fin 128), xs0 (ix2 d k) = x2 (ix3 0 k d))
include hx

theorem outB_codes (hc0 : ¬cond0_0 i) (l : Fin 512) (k : Fin 7168) : out0_B_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 xs0 (ix3 0 l k) = cdOf x0 x1 x2 x3 l k := by
  unfold out0_B_4
  rw [View.read_writes_junk_eq_canon, runB_out, out_codes]
  exact outB_of (isEnvB harg2 harg3 harg5 harg8 _ _ x0 x1 x2 x3 xs0 hx) l k

theorem outB_scales (hc0 : ¬cond0_0 i) (l : Fin 512) (g : Fin 112) : out0_B_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 xs0 (ix3 0 l g) = scale (top (mg x0 x1 x2 x3 g l)) := by
  unfold out0_B_5
  rw [View.read_writes_junk_eq_canon, runB_sc, out_scales]
  exact outS_of (isEnvB harg2 harg3 harg5 harg8 _ _ x0 x1 x2 x3 xs0 hx) l g

end Cases

variable (m : (ℓ : Loc nD τ sig) → Buf (Elt Ideal) ℓ) (c : Dev nD)

theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem idx1 : ∀ t : Fin cfg0.N, win0_1.index t (0 : Fin 3) = t.val / 8 ∧ win0_1.index t (1 : Fin 3) = t.val % 8 ∧ win0_1.index t (2 : Fin 3) = 0 :=
  (by decide +kernel : ∀ t : Fin grid0.N, _)
theorem idx2 : ∀ t : Fin cfg0.N, win0_2.index t (0 : Fin 3) = t.val / 8 ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val / 8 ∧ win0_3.index t (1 : Fin 3) = t.val % 8 ∧ win0_3.index t (2 : Fin 3) = 0 :=
  (by decide +kernel : ∀ t : Fin grid0.N, _)

theorem lt_N (t : Fin cfg0.N) : t.val < 2 * 8 := lt_of_lt_of_eq t.isLt N_0

/-- The batch entry of a point. -/
def bOf (t : Fin cfg0.N) : Fin 2 := ⟨t.val / 8, by have := lt_N t; omega⟩
/-- The row of the arrays that a row of the point's block is. -/
def nOf (t : Fin cfg0.N) (l : Fin 512) : Fin 4096 := ⟨512 * (t.val % 8) + l.val, by omega⟩

theorem blk0 (t : Fin cfg0.N) (l : Fin 512) (k : Fin 7168) : (iblk m c 0 t : Vec Ideal S1x512x7168 .i8) (ix3 0 l k) = m ((c : Thread nD τ).loc main_arg0) (ix3 (bOf t) (nOf t l) k) := by
  obtain ⟨e0, e1, e2⟩ := idx0 t
  show m ((c : Thread nD τ).loc main_arg0) (((cfg0.win 0).blk t).view.emb (ix3 0 l k : S1x512x7168.Idx)) = _
  refine congrArg _ ?_
  funext a
  match a with
  | 0 => exact Fin.ext (show win0_0.index t (0 : Fin 3) * 1 + 1 * 0 = t.val / 8 by omega)
  | 1 => exact Fin.ext (show win0_0.index t (1 : Fin 3) * 512 + 1 * l.val = 512 * (t.val % 8) + l.val by omega)
  | 2 => exact Fin.ext (show win0_0.index t (2 : Fin 3) * 7168 + 1 * k.val = k.val by omega)

theorem blk1 (t : Fin cfg0.N) (l : Fin 512) (k : Fin 112) : (iblk m c 1 t : Vec Ideal S1x512x112 .bf16) (ix3 0 l k) = m ((c : Thread nD τ).loc main_arg1) (ix3 (bOf t) (nOf t l) k) := by
  obtain ⟨e0, e1, e2⟩ := idx1 t
  show m ((c : Thread nD τ).loc main_arg1) (((cfg0.win 1).blk t).view.emb (ix3 0 l k : S1x512x112.Idx)) = _
  refine congrArg _ ?_
  funext a
  match a with
  | 0 => exact Fin.ext (show win0_1.index t (0 : Fin 3) * 1 + 1 * 0 = t.val / 8 by omega)
  | 1 => exact Fin.ext (show win0_1.index t (1 : Fin 3) * 512 + 1 * l.val = 512 * (t.val % 8) + l.val by omega)
  | 2 => exact Fin.ext (show win0_1.index t (2 : Fin 3) * 112 + 1 * k.val = k.val by omega)

theorem blk2 (t : Fin cfg0.N) (k : Fin 128) (d : Fin 14336) : (iblk m c 2 t : Vec Ideal S1x128x14336 .bf16) (ix3 0 k d) = m ((c : Thread nD τ).loc main_arg2) (ix3 (bOf t) k d) := by
  obtain ⟨e0, e1, e2⟩ := idx2 t
  show m ((c : Thread nD τ).loc main_arg2) (((cfg0.win 2).blk t).view.emb (ix3 0 k d : S1x128x14336.Idx)) = _
  refine congrArg _ ?_
  funext a
  match a with
  | 0 => exact Fin.ext (show win0_2.index t (0 : Fin 3) * 1 + 1 * 0 = t.val / 8 by omega)
  | 1 => exact Fin.ext (show win0_2.index t (1 : Fin 3) * 128 + 1 * k.val = k.val by omega)
  | 2 => exact Fin.ext (show win0_2.index t (2 : Fin 3) * 14336 + 1 * d.val = d.val by omega)

theorem blk3 (t : Fin cfg0.N) (l : Fin 512) (k : Fin 128) : (iblk m c 3 t : Vec Ideal S1x512x128 .bf16) (ix3 0 l k) = m ((c : Thread nD τ).loc main_arg3) (ix3 (bOf t) (nOf t l) k) := by
  obtain ⟨e0, e1, e2⟩ := idx3 t
  show m ((c : Thread nD τ).loc main_arg3) (((cfg0.win 3).blk t).view.emb (ix3 0 l k : S1x512x128.Idx)) = _
  refine congrArg _ ?_
  funext a
  match a with
  | 0 => exact Fin.ext (show win0_3.index t (0 : Fin 3) * 1 + 1 * 0 = t.val / 8 by omega)
  | 1 => exact Fin.ext (show win0_3.index t (1 : Fin 3) * 512 + 1 * l.val = 512 * (t.val % 8) + l.val by omega)
  | 2 => exact Fin.ext (show win0_3.index t (2 : Fin 3) * 128 + 1 * k.val = k.val by omega)

/-- The carried buffer holds the first factor's batch entry, transposed. -/
theorem carried : ∀ (n : ℕ) (hn : n < cfg0.N) (d : Fin 14336) (k : Fin 128),
    (outsAt0 m c n hn).2.2 (ix2 d k) = m ((c : Thread nD τ).loc main_arg2) (ix3 (bOf ⟨n, hn⟩) k d) := by
  intro n
  induction n with
  | zero =>
    intro hn d k
    rw [outsAt0_A m c ⟨0, hn⟩ (Nat.zero_mod _)]
    dsimp only
    refine (outA_at (x0 := iblk m c 0 ⟨0, hn⟩) (x1 := iblk m c 1 ⟨0, hn⟩) (x2 := iblk m c 2 ⟨0, hn⟩) (x3 := iblk m c 3 ⟨0, hn⟩) ..).trans (blk2 m c _ k d)
  | succ n ih =>
    intro hn d k
    by_cases h0 : (n + 1) % 8 = 0
    · rw [outsAt0_A m c ⟨n + 1, hn⟩ h0]
      dsimp only
      refine (outA_at (x0 := iblk m c 0 ⟨n + 1, hn⟩) (x1 := iblk m c 1 ⟨n + 1, hn⟩) (x2 := iblk m c 2 ⟨n + 1, hn⟩) (x3 := iblk m c 3 ⟨n + 1, hn⟩) ..).trans (blk2 m c _ k d)
    · rw [outsAt0_B m c ⟨n + 1, hn⟩ h0]
      refine (ih (Nat.lt_of_succ_lt hn) d k).trans ?_
      congr 2
      exact Fin.ext (show n / 8 = (n + 1) / 8 by omega)

theorem carried_blk (t : Fin cfg0.N) (h0 : ¬t.val % 8 = 0) (hb : t.val - 1 < cfg0.N) (d : Fin 14336) (k : Fin 128) :
    (outsAt0 m c (t.val - 1) hb).2.2 (ix2 d k) = (iblk m c 2 t : Vec Ideal S1x128x14336 .bf16) (ix3 0 k d) := by
  rw [carried, blk2]
  congr 2
  exact Fin.ext (show (t.val - 1) / 8 = t.val / 8 by omega)

theorem point_codes (t : Fin cfg0.N) (l : Fin 512) (k : Fin 7168) :
    (outsAt0 m c t.val t.isLt).1 (ix3 0 l k) = cdOf (iblk m c 0 t) (iblk m c 1 t) (iblk m c 2 t) (iblk m c 3 t) l k := by
  by_cases h0 : t.val % 8 = 0
  · rw [outsAt0_A m c t h0]
    dsimp only
    exact outA_codes (x0 := iblk m c 0 t) (x1 := iblk m c 1 t) (x2 := iblk m c 2 t) (x3 := iblk m c 3 t) ..
  · rw [outsAt0_B m c t h0]
    dsimp only
    exact outB_codes (x0 := iblk m c 0 t) (x1 := iblk m c 1 t) (x2 := iblk m c 2 t) (x3 := iblk m c 3 t) (xs0 := (outsAt0 m c (t.val - 1) (Nat.lt_of_le_of_lt (Nat.sub_le _ _) t.isLt)).2.2) (hx := carried_blk m c t h0 _) ..

theorem point_scales (t : Fin cfg0.N) (l : Fin 512) (g : Fin 112) :
    (outsAt0 m c t.val t.isLt).2.1 (ix3 0 l g) = scale (top (mg (iblk m c 0 t) (iblk m c 1 t) (iblk m c 2 t) (iblk m c 3 t) g l)) := by
  by_cases h0 : t.val % 8 = 0
  · rw [outsAt0_A m c t h0]
    dsimp only
    exact outA_scales (x0 := iblk m c 0 t) (x1 := iblk m c 1 t) (x2 := iblk m c 2 t) (x3 := iblk m c 3 t) ..
  · rw [outsAt0_B m c t h0]
    dsimp only
    exact outB_scales (x0 := iblk m c 0 t) (x1 := iblk m c 1 t) (x2 := iblk m c 2 t) (x3 := iblk m c 3 t) (xs0 := (outsAt0 m c (t.val - 1) (Nat.lt_of_le_of_lt (Nat.sub_le _ _) t.isLt)).2.2) (hx := carried_blk m c t h0 _) ..

/-- The merged weight of batch entry `b`, row `n`, group `g`, place `r`, from the arrays. -/
def merged (w : S2x4096x7168.Idx → BitVec 8) (s : S2x4096x112.Idx → EReal) (a : S2x128x14336.Idx → EReal) (b : S2x4096x128.Idx → EReal)
    (i : Fin 2) (n : Fin 4096) (g : Fin 112) (r : Fin 128) : EReal :=
  (((signed (nib (r.val % 2 = 1) (w (ix3 i n ⟨64 * g.val + r.val / 2, by omega⟩)))).toInt : ℝ) : EReal) * s (ix3 i n g)
    + (((1 : ℝ) / 8 : ℝ) : EReal) * ∑ k : Fin 128, b (ix3 i n k) * a (ix3 i k ⟨128 * g.val + r.val, by omega⟩)

/-- The merged weight from the kernel's arguments. -/
abbrev mk : Fin 2 → Fin 4096 → Fin 112 → Fin 128 → EReal :=
  merged (m ((c : Thread nD τ).loc main_arg0)) (m ((c : Thread nD τ).loc main_arg1)) (m ((c : Thread nD τ).loc main_arg2)) (m ((c : Thread nD τ).loc main_arg3))

theorem mg_merged (t : Fin cfg0.N) (g : Fin 112) (l : Fin 512) : mg (iblk m c 0 t) (iblk m c 1 t) (iblk m c 2 t) (iblk m c 3 t) g l = mk m c (bOf t) (nOf t l) g := by
  funext r
  unfold mg dq mk merged
  rw [blk0, blk1]
  congr 2
  refine Finset.sum_congr rfl fun k _ => ?_
  rw [blk2, blk3]

/-- The kernel's codes. -/
theorem codes_apply (b : Fin 2) (n : Fin 4096) (k : Fin 7168) :
    Value.G4 m c (ix3 b n k : S2x4096x7168.Idx) = byte (mk m c b n ⟨k.val / 64, by omega⟩) ⟨k.val % 64, by omega⟩ := by
  have hk := k.isLt
  have hn := n.isLt
  have hlt : 8 * b.val + n.val / 512 < cfg0.N := lt_of_lt_of_eq (show _ < 2 * 8 by omega) N_0.symm
  have hp : Value.pt4Of (ix3 b n k : S2x4096x7168.Idx) = 8 * b.val + n.val / 512 := by
    show 8 * (b.val / 1 - 0) + 1 * (n.val / 512 - 0) + 1 * (k.val / 7168 - 0) = _
    omega
  have hl : Value.loc4Of (ix3 b n k : S2x4096x7168.Idx) = ix3 0 ⟨n.val % 512, by omega⟩ k := by
    funext a
    match a with
    | 0 => exact Fin.ext (show b.val % 1 = 0 by omega)
    | 1 => exact Fin.ext (show n.val % 512 = n.val % 512 from rfl)
    | 2 => exact Fin.ext (show k.val % 7168 = k.val by omega)
  have hb : bOf ⟨8 * b.val + n.val / 512, hlt⟩ = b := Fin.ext (show (8 * b.val + n.val / 512) / 8 = b.val by omega)
  have hn' : nOf ⟨8 * b.val + n.val / 512, hlt⟩ ⟨n.val % 512, by omega⟩ = n := Fin.ext (show 512 * ((8 * b.val + n.val / 512) % 8) + n.val % 512 = n.val by omega)
  unfold Value.G4
  rw [dif_pos (by rw [hp]; exact hlt), hl, Value.fold0_congr m c _ _ _ ((Nat.zero_add _).symm ▸ hlt) hp, ← Value.outsAt0_sweep m c _ hlt]
  refine (point_codes m c ⟨_, hlt⟩ ⟨n.val % 512, by omega⟩ k).trans ?_
  unfold cdOf
  rw [mg_merged, hb, hn']

/-- The kernel's scales. -/
theorem scales_apply (b : Fin 2) (n : Fin 4096) (g : Fin 112) :
    Value.G5 m c (ix3 b n g : S2x4096x112.Idx) = scale (top (mk m c b n g)) := by
  have hk := g.isLt
  have hn := n.isLt
  have hlt : 8 * b.val + n.val / 512 < cfg0.N := lt_of_lt_of_eq (show _ < 2 * 8 by omega) N_0.symm
  have hp : Value.pt5Of (ix3 b n g : S2x4096x112.Idx) = 8 * b.val + n.val / 512 := by
    show 8 * (b.val / 1 - 0) + 1 * (n.val / 512 - 0) + 1 * (g.val / 112 - 0) = _
    omega
  have hl : Value.loc5Of (ix3 b n g : S2x4096x112.Idx) = ix3 0 ⟨n.val % 512, by omega⟩ g := by
    funext a
    match a with
    | 0 => exact Fin.ext (show b.val % 1 = 0 by omega)
    | 1 => exact Fin.ext (show n.val % 512 = n.val % 512 from rfl)
    | 2 => exact Fin.ext (show g.val % 112 = g.val by omega)
  have hb : bOf ⟨8 * b.val + n.val / 512, hlt⟩ = b := Fin.ext (show (8 * b.val + n.val / 512) / 8 = b.val by omega)
  have hn' : nOf ⟨8 * b.val + n.val / 512, hlt⟩ ⟨n.val % 512, by omega⟩ = n := Fin.ext (show 512 * ((8 * b.val + n.val / 512) % 8) + n.val % 512 = n.val by omega)
  unfold Value.G5
  rw [dif_pos (by rw [hp]; exact hlt), hl, Value.fold0_congr m c _ _ _ ((Nat.zero_add _).symm ▸ hlt) hp, ← Value.outsAt0_sweep m c _ hlt]
  refine (point_scales m c ⟨_, hlt⟩ ⟨n.val % 512, by omega⟩ g).trans ?_
  rw [mg_merged, hb, hn']

end Cert.Block
-- ==== Proof.Ref.lean ====
module

public import proofs.«01_k».proof.Proof.Gen.ReferenceIdeal.Read
public import proofs.«01_k».proof.Proof.Points

@[expose] public section

set_option maxRecDepth 16384

noncomputable section

/-! The reference at an index. -/

namespace Cert.Block

open Cert.ReferenceIdeal Cert.ReferenceIdeal.Gen Cert.ReferenceIdeal.Read Idealize.ShloMosaic Idealize.ShloMosaic.TcCoe Idealize.SL.Sem Cert.Scalar

variable (x0 : (⟨S2x4096x7168, .i8⟩ : BufTy).Contents (Elt Ideal)) (x1 : (⟨S2x4096x112, .bf16⟩ : BufTy).Contents (Elt Ideal))
  (x2 : (⟨S2x128x14336, .bf16⟩ : BufTy).Contents (Elt Ideal)) (x3 : (⟨S2x4096x128, .bf16⟩ : BufTy).Contents (Elt Ideal))

/-- The merged weight from the reference's arguments. -/
abbrev mr : Fin 2 → Fin 4096 → Fin 112 → Fin 128 → EReal := merged x0 x1 x2 x3

theorem sitofp_toInt (φ : FTy) (v : BitVec 32) : FloatOps.sitofp (F := Ideal) φ v = ((v.toInt : ℝ) : EReal) := rfl

theorem ofBits_eighth' : Ideal.ofBits .f32 0x3E000000#32 = (((1 : ℝ) / 8 : ℝ) : EReal) := by
  simp [Ideal.ofBits, Ideal.ieee, -EReal.coe_mul]; norm_num

theorem ofBits_bot : Ideal.ofBits .f32 0xFF800000#32 = ⊥ := by
  simp [Ideal.ofBits, Ideal.ieee]

theorem select_signed (v : BitVec 32) : Scalar.select (IntOp.cmpi CmpIPredicate.sge v 8#32) (IntOp.subi v 16#32) v = signed v := by
  unfold signed
  by_cases h : (8#32).sle v <;> simp [Scalar.select, IntOp.cmpi, IntOp.subi, h]

/-- The even place `2 j` of a group. -/
def ev (j : Fin 64) : Fin 128 := ⟨2 * j.val, by omega⟩
/-- The odd place `2 j + 1` of a group. -/
def od (j : Fin 64) : Fin 128 := ⟨2 * j.val + 1, by omega⟩

theorem lo_apply (b : Fin 2) (n : Fin 4096) (g : Fin 112) (j : Fin 64) :
    val_main_v33 (F := Ideal) x0 x1 x2 x3 (ix4 b n g j) = mr x0 x1 x2 x3 b n g (ev j) := by
  have h1 : val_main_v30 (F := Ideal) x0 x1 (ix4 b n g j) = (((signed (nib ((ev j).val % 2 = 1) (x0 (ix3 b n ⟨64 * g.val + (ev j).val / 2, by have := (ev j).isLt; omega⟩)))).toInt : ℝ) : EReal) * x1 (ix3 b n g) := by
    pointwise [val_main_v30, val_main_v19, val_main_v18, val_main_v17, val_main_v16, val_main_v8, val_main_v7, val_main_v6, val_main_v5, val_main_v4, val_main_v3, val_main_v2, val_main_v1, val_main_v0, val_main_c, val_main_c_0, val_main_c_1]
    have hi : (⟨64 * g.val + (ev j).val / 2, by have := (ev j).isLt; omega⟩ : Fin 7168) = ⟨g.val * 64 + j.val, by omega⟩ := Fin.ext (show 64 * g.val + 2 * j.val / 2 = g.val * 64 + j.val by omega)
    have hp : ¬(ev j).val % 2 = 1 := (show ¬(2 * j.val) % 2 = 1 by omega)
    rw [select_signed, sitofp_toInt, hi]
    simp only [hp, decide_false, nib]
    rfl
  have h2 : val_main_v32 (F := Ideal) x2 x3 (ix4 b n g j) = (((1 : ℝ) / 8 : ℝ) : EReal) * ∑ k : Fin 128, x3 (ix3 b n k) * x2 (ix3 b k ⟨128 * g.val + (ev j).val, by have := (ev j).isLt; omega⟩) := by
    pointwise [val_main_v32, val_main_v31, val_main_v26, val_main_v25, val_main_v24, val_main_v23, val_main_cst]
    have hi : (⟨128 * g.val + (ev j).val, by have := (ev j).isLt; omega⟩ : Fin 14336) = ⟨g.val * 128 + j.val * 2, by omega⟩ := Fin.ext (show 128 * g.val + 2 * j.val = g.val * 128 + j.val * 2 by omega)
    rw [ofBits_eighth', hi]
  rw [val_main_v33_apply, h1, h2]
  rfl

theorem hi_apply (b : Fin 2) (n : Fin 4096) (g : Fin 112) (j : Fin 64) :
    val_main_v37 (F := Ideal) x0 x1 x2 x3 (ix4 b n g j) = mr x0 x1 x2 x3 b n g (od j) := by
  have h1 : val_main_v34 (F := Ideal) x0 x1 (ix4 b n g j) = (((signed (nib ((od j).val % 2 = 1) (x0 (ix3 b n ⟨64 * g.val + (od j).val / 2, by have := (od j).isLt; omega⟩)))).toInt : ℝ) : EReal) * x1 (ix3 b n g) := by
    pointwise [val_main_v34, val_main_v22, val_main_v21, val_main_v20, val_main_v16, val_main_v15, val_main_v14, val_main_v13, val_main_v12, val_main_v11, val_main_v10, val_main_v9, val_main_v1, val_main_v0, val_main_c_2, val_main_c_3, val_main_c_4]
    have hi : (⟨64 * g.val + (od j).val / 2, by have := (od j).isLt; omega⟩ : Fin 7168) = ⟨g.val * 64 + j.val, by omega⟩ := Fin.ext (show 64 * g.val + (2 * j.val + 1) / 2 = g.val * 64 + j.val by omega)
    have hp : (od j).val % 2 = 1 := (show (2 * j.val + 1) % 2 = 1 by omega)
    rw [select_signed, sitofp_toInt, hi]
    simp only [hp, decide_true, nib]
    rfl
  have h2 : val_main_v36 (F := Ideal) x2 x3 (ix4 b n g j) = (((1 : ℝ) / 8 : ℝ) : EReal) * ∑ k : Fin 128, x3 (ix3 b n k) * x2 (ix3 b k ⟨128 * g.val + (od j).val, by have := (od j).isLt; omega⟩) := by
    pointwise [val_main_v36, val_main_v35, val_main_v29, val_main_v28, val_main_v27, val_main_v23, val_main_cst_5]
    have hi : (⟨128 * g.val + (od j).val, by have := (od j).isLt; omega⟩ : Fin 14336) = ⟨g.val * 128 + j.val * 2 + 1, by omega⟩ := Fin.ext (show 128 * g.val + (2 * j.val + 1) = g.val * 128 + j.val * 2 + 1 by omega)
    rw [ofBits_eighth', hi]
  rw [val_main_v37_apply, h1, h2]
  rfl

/-- The greatest magnitude of a group. -/
theorem amax_ref (b : Fin 2) (n : Fin 4096) (g : Fin 112) : val_main_v42 (F := Ideal) x0 x1 x2 x3 (ix3 b n g) = top (mr x0 x1 x2 x3 b n g) := by
  have h1 : ∀ c, val_main_v39 (F := Ideal) x0 x1 x2 x3 (ix3 b n g) ≤ c ↔ ∀ j, ab (mr x0 x1 x2 x3 b n g (ev j)) ≤ c := by
    intro c
    have e : ∀ j, val_main_v38 (F := Ideal) x0 x1 x2 x3 (ix4 b n g j) = ab (mr x0 x1 x2 x3 b n g (ev j)) := fun j => by
      rw [← lo_apply]; rfl
    unfold val_main_v39
    generalize val_main_v38 (F := Ideal) x0 x1 x2 x3 = w at e ⊢
    pointwise [val_main_cst_6]
    rw [ofBits_bot, Finset.fold_max_le]
    simp only [e, bot_le, true_and, Finset.mem_univ, forall_const]
  have h2 : ∀ c, val_main_v41 (F := Ideal) x0 x1 x2 x3 (ix3 b n g) ≤ c ↔ ∀ j, ab (mr x0 x1 x2 x3 b n g (od j)) ≤ c := by
    intro c
    have e : ∀ j, val_main_v40 (F := Ideal) x0 x1 x2 x3 (ix4 b n g j) = ab (mr x0 x1 x2 x3 b n g (od j)) := fun j => by
      rw [← hi_apply]; rfl
    unfold val_main_v41
    generalize val_main_v40 (F := Ideal) x0 x1 x2 x3 = w at e ⊢
    pointwise [val_main_cst_7]
    rw [ofBits_bot, Finset.fold_max_le]
    simp only [e, bot_le, true_and, Finset.mem_univ, forall_const]
  refine eq_top_of fun c => ?_
  rw [val_main_v42_apply]
  show max (val_main_v39 (F := Ideal) x0 x1 x2 x3 (ix3 b n g)) (val_main_v41 (F := Ideal) x0 x1 x2 x3 (ix3 b n g)) ≤ c ↔ _
  rw [max_le_iff, h1, h2]
  constructor
  · rintro ⟨ha, hb⟩ r
    rcases Nat.mod_two_eq_zero_or_one r.val with h | h
    · have := ha ⟨r.val / 2, by omega⟩
      rwa [show ev ⟨r.val / 2, by omega⟩ = r from Fin.ext (show 2 * (r.val / 2) = r.val by omega)] at this
    · have := hb ⟨r.val / 2, by omega⟩
      rwa [show od ⟨r.val / 2, by omega⟩ = r from Fin.ext (show 2 * (r.val / 2) + 1 = r.val by omega)] at this
  · exact fun h => ⟨fun j => h _, fun j => h _⟩

theorem ofBits_ideal (φ : FTy) (v : BitVec φ.bits) : FloatOps.ofBits (F := Ideal) φ v = Ideal.ofBits φ v := rfl

theorem ofBits_one' : Ideal.ofBits .f32 0x3F800000#32 = 1 := by
  simp [Ideal.ofBits, Ideal.ieee, -EReal.coe_mul]; norm_num

theorem ofBits_zero' : Ideal.ofBits .f32 0x00000000#32 = 0 := by
  simp [Ideal.ofBits, Ideal.ieee]

theorem truncf_eq (y : EReal) : FloatOps.truncf (F := Ideal) (φ := FTy.f32) FTy.bf16 bitsLt_bf16_f32 y = y := rfl

theorem hostDivf_eq (x y : EReal) : FloatOps.hostDivf (F := Ideal) (φ := FTy.f32) x y = Ideal.div x y := rfl

theorem select_zero (a x y : EReal) : Scalar.select (FloatOps.cmpf (F := Ideal) (φ := FTy.f32) .oeq a 0) x y = if a = 0 then x else y := by
  by_cases h : a = 0 <;> simp [Scalar.select, FloatOps.cmpf, Ideal.cmp, h]

/-- The reference's scales. -/
theorem ref_scales (b : Fin 2) (n : Fin 4096) (g : Fin 112) : val_main_v48 (F := Ideal) x0 x1 x2 x3 (ix3 b n g) = scale (top (mr x0 x1 x2 x3 b n g)) := by
  rw [val_main_v48_apply, truncf_eq, val_main_v47_apply, val_main_v44_apply, val_main_v43_apply, val_main_cst_8_apply, ofBits_ideal, ofBits_zero', select_zero,
    val_main_call2_v1_apply, val_main_call2_v0_apply, val_main_cst_10_apply, ofBits_ideal, ofBits_one', val_main_v46_apply, hostDivf_eq,
    val_main_v45_apply, val_main_cst_9_apply, ofBits_ideal, ofBits_seven, amax_ref, scale]

theorem minus_seven : FloatOps.sitofp (F := Ideal) FTy.f32 4294967289#32 = ((-7 : ℝ) : EReal) := by
  rw [sitofp_toInt, show (4294967289#32 : BitVec 32).toInt = -7 from rfl]
  norm_num

theorem seven : FloatOps.sitofp (F := Ideal) FTy.f32 7#32 = ((7 : ℝ) : EReal) := by
  rw [sitofp_toInt, show (7#32 : BitVec 32).toInt = 7 from rfl]
  norm_num

theorem fptosi_eq (y : EReal) : FloatOps.fptosi (F := Ideal) (φ := FTy.f32) 32 y = Ideal.fptosi 32 y := rfl

/-- Rounding and clipping as the reference writes them. -/
theorem rnd_eq (w s : EReal) : FloatOps.minimumf (F := Ideal) (φ := FTy.f32) ((7 : ℝ) : EReal) (FloatOps.maximumf (F := Ideal) (φ := FTy.f32) ((-7 : ℝ) : EReal)
    (FloatOps.hostUnary (F := Ideal) (φ := FTy.f32) .roundeven (FloatOps.hostDivf (F := Ideal) (φ := FTy.f32) w (FloatOps.extf (F := Ideal) FTy.f32 bitsLt_bf16_f32 s)))) = rnd (Ideal.div w s) := rfl

theorem lo_codes (b : Fin 2) (n : Fin 4096) (g : Fin 112) (j : Fin 64) :
    val_main_v55 (F := Ideal) x0 x1 x2 x3 (ix4 b n g j) = code (mr x0 x1 x2 x3 b n g) (ev j) := by
  have hi : idx_main_v50 (idx_main_v51 (ix4 b n g j)) = ix3 b n g := by
    funext a
    match a with
    | 0 => rfl
    | 1 => rfl
    | 2 => rfl
  rw [val_main_v55_apply, val_main_v54_apply, val_main_call4_v2_apply, val_main_v53_apply, val_main_v52_apply, val_main_v51_apply, val_main_v50_apply, val_main_v49_apply, hi,
    val_main_call4_v1_apply, val_main_call4_v0_apply, val_main_c_11_apply, minus_seven, val_main_call4_v4_apply, val_main_call4_v3_apply, val_main_c_12_apply, seven, lo_apply, ref_scales, rnd_eq, fptosi_eq, code]

theorem hi_codes (b : Fin 2) (n : Fin 4096) (g : Fin 112) (j : Fin 64) :
    val_main_v60 (F := Ideal) x0 x1 x2 x3 (ix4 b n g j) = code (mr x0 x1 x2 x3 b n g) (od j) := by
  have hi : idx_main_v50 (idx_main_v56 (ix4 b n g j)) = ix3 b n g := by
    funext a
    match a with
    | 0 => rfl
    | 1 => rfl
    | 2 => rfl
  rw [val_main_v60_apply, val_main_v59_apply, val_main_call6_v2_apply, val_main_v58_apply, val_main_v57_apply, val_main_v56_apply, val_main_v50_apply, val_main_v49_apply, hi,
    val_main_call6_v1_apply, val_main_call6_v0_apply, val_main_c_13_apply, minus_seven, val_main_call6_v4_apply, val_main_call6_v3_apply, val_main_c_14_apply, seven, hi_apply, ref_scales, rnd_eq, fptosi_eq, code]

/-- The reference's codes. -/
theorem ref_codes (b : Fin 2) (n : Fin 4096) (k : Fin 7168) :
    val_main_v69 (F := Ideal) x0 x1 x2 x3 (ix3 b n k) = byte (mr x0 x1 x2 x3 b n ⟨k.val / 64, by omega⟩) ⟨k.val % 64, by omega⟩ := by
  have e1 := lo_codes x0 x1 x2 x3
  have e2 := hi_codes x0 x1 x2 x3
  unfold val_main_v69 val_main_v68 val_main_v67 val_main_v66 val_main_v64 val_main_v62
  generalize val_main_v55 (F := Ideal) x0 x1 x2 x3 = p at e1 ⊢
  generalize val_main_v60 (F := Ideal) x0 x1 x2 x3 = q at e2 ⊢
  pointwise [val_main_v61, val_main_v63, val_main_v65, val_main_c_15, val_main_c_16, val_main_c_17]
  rw [e1, e2]
  have hs : ∀ v : BitVec 32, IntOp.shli ArithUnit.host v 4#32 = v <<< 4 := fun v => by simp [IntOp.shli]
  rw [hs]
  exact congrArg (BitVec.truncate 8) (BitVec.or_comm _ _)

end Cert.Block
-- ==== Proof.lean ====
/- The proof of the certificate's claim: the three programs' frames, the float-type erasure, and the equality of both results of the idealized
   kernel with the idealized reference's, index by index. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Points
public import proofs.«01_k».proof.Proof.Ref
public import Idealize.ShloMosaic.Adequacy
public import Idealize.ShloMosaic.Init

@[expose] public section

noncomputable section

namespace Cert.Proof

open Idealize.ShloMosaic Idealize.SL.Sem

/-- The reference terminates, leaves its arguments as they were, and leaves its counters at zero. -/
theorem frame_r : Cert.quiescent_ReferenceIdeal := by
  intro m ρ _
  exact (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The codes of the kernel and of the reference are the same array. -/
theorem codes_eq (m : (ℓ : Loc Cert.KernelIdeal.nD Cert.KernelIdeal.τ Cert.KernelIdeal.sig) → Buf (Elt Ideal) ℓ) (c : Dev Cert.KernelIdeal.nD) :
    Cert.ReferenceIdeal.Read.val_main_v69 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = Cert.KernelIdeal.Value.G4 m c := by
  funext i
  obtain ⟨b, n, k, rfl⟩ : ∃ b n k, i = ix3 b n k := ⟨i 0, i 1, i 2, by funext d; fin_cases d <;> rfl⟩
  exact (Cert.Block.ref_codes _ _ _ _ b n k).trans (Cert.Block.codes_apply m c b n k).symm

/-- The scales of the kernel and of the reference are the same array. -/
theorem scales_eq (m : (ℓ : Loc Cert.KernelIdeal.nD Cert.KernelIdeal.τ Cert.KernelIdeal.sig) → Buf (Elt Ideal) ℓ) (c : Dev Cert.KernelIdeal.nD) :
    Cert.ReferenceIdeal.Read.val_main_v48 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = Cert.KernelIdeal.Value.G5 m c := by
  funext i
  obtain ⟨b, n, g, rfl⟩ : ∃ b n g, i = ix3 b n g := ⟨i 0, i 1, i 2, by funext d; fin_cases d <;> rfl⟩
  exact (Cert.Block.ref_scales _ _ _ _ b n g).trans (Cert.Block.scales_apply m c b n g).symm

/-- Both results of the idealized kernel are the idealized reference's. -/
theorem values : Cert.algebraic_KernelIdeal_ReferenceIdeal := by
  intro m g m' g' _ hm
  refine ⟨fun c => Cert.KernelIdeal.Value.G4 m c, fun c => Cert.KernelIdeal.Value.G5 m c, Cert.KernelIdeal.Value.run m g, ?_⟩
  refine (θ_run Cert.ReferenceIdeal.defs _ _).mono (fun r h c => ?_) (Cert.ReferenceIdeal.Value.run (F := Ideal) m' g')
  obtain ⟨e0, e1, e2, e3⟩ := hm c
  refine ⟨(h c).1.trans ?_, (h c).2.1.trans ?_, (h c).2.2⟩
  · rw [Cert.ReferenceIdeal.Read.val_main_v69_eq, e0, e1, e2, e3]
    exact codes_eq m c
  · rw [Cert.ReferenceIdeal.Read.val_main_v48_eq, e0, e1, e2, e3]
    exact scales_eq m c

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_r, trivial, values⟩

end Cert.Proof

end
